-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x_KernelIdeal [hPre_finite_x_KernelIdeal : Cert.Pre_finite_x_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x_ReferenceIdeal [hPre_finite_x_ReferenceIdeal : Cert.Pre_finite_x_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_x_KernelIdeal [hKernelIdeal : Cert.KernelIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_x_ReferenceIdeal [hReferenceIdeal : Cert.ReferenceIdeal.Facts] [hPre_finite_x_ReferenceIdeal : Cert.Pre_finite_x_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_x_KernelIdeal [hKernelIdeal : Cert.KernelIdeal.Facts] [hReferenceIdeal : Cert.ReferenceIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x_KernelIdeal m →
    (∀ c : Dev Cert.KernelIdeal.nD,
      m ((c.tc : Thread Cert.KernelIdeal.nD Cert.KernelIdeal.τ).loc Cert.KernelIdeal.main_arg0) = Layout.block ⟨4, ![2, 128, 128, 64]⟩ ⟨4, ![2, 4096, 128, 64]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.block ⟨4, ![2, 128, 128, 128]⟩ ⟨4, ![2, 4096, 128, 128]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_x_KernelIdeal : Cert.Pre_finite_x_KernelIdeal.Facts) (hPre_finite_x_ReferenceIdeal : Cert.Pre_finite_x_ReferenceIdeal.Facts),
    quiescent_Kernel (hKernel := hKernel)
    ∧ quiescent_KernelIdeal (hKernelIdeal := hKernelIdeal)
    ∧ quiescent_KernelIdeal_pre_finite_x_KernelIdeal (hKernelIdeal := hKernelIdeal) (hPre_finite_x_KernelIdeal := hPre_finite_x_KernelIdeal)
    ∧ quiescent_ReferenceIdeal (hReferenceIdeal := hReferenceIdeal)
    ∧ quiescent_ReferenceIdeal_pre_finite_x_ReferenceIdeal (hReferenceIdeal := hReferenceIdeal) (hPre_finite_x_ReferenceIdeal := hPre_finite_x_ReferenceIdeal)
    ∧ preserves_Kernel_KernelIdeal
    ∧ algebraic_KernelIdeal_ReferenceIdeal_pre_finite_x_KernelIdeal (hKernelIdeal := hKernelIdeal) (hReferenceIdeal := hReferenceIdeal) (hPre_finite_x_KernelIdeal := hPre_finite_x_KernelIdeal)
-- ==== Pre_finite_x_KernelIdeal.lean ====
abbrev S2x128x128x64 : Shape := ⟨4, ![2, 128, 128, 64]⟩
abbrev S64x128 : Shape := ⟨2, ![64, 128]⟩
abbrev S_ : Shape := ⟨0, ![]⟩

class Facts : Prop where
  bcast_S_S2x128x128x64 : S_.BroadcastsInDim S2x128x128x64 (![] : Fin 0 → Fin S2x128x128x64.rank)
  reducesTo_S2x128x128x64_S_d0_1_2_3 : S2x128x128x64.ReducesTo [0, 1, 2, 3] S_
  h_S_ : 0 < S_.numel

variable [Facts]

def fn {F : FTy → Type} [FloatOps F] (main_arg0 : FVec F S2x128x128x64 .f32) (main_arg1 : FVec F S64x128 .f32) : IVec S_ 1 :=
  let main_v0 : FVec F S2x128x128x64 .f32 := Host.absf main_arg0
  let main_cst : FVec F S_ .f32 := constant S_ .f32 0x7F800000#32
  let main_v1 : FVec F S2x128x128x64 .f32 := broadcastInDim S2x128x128x64 ![] bcast_S_S2x128x128x64 main_cst
  let main_v2 : IVec S2x128x128x64 1 := cmpf .olt main_v0 main_v1
  let main_c : IVec S_ 1 := constantI S_ 1 1#1
  let main_v3 : IVec S_ 1 := (fun x v => Host.reduce IntOp.andi x v reducesTo_S2x128x128x64_S_d0_1_2_3 h_S_) main_v2 main_c
  main_v3
-- ==== Pre_finite_x_ReferenceIdeal.lean ====
abbrev S2x4096x128x64 : Shape := ⟨4, ![2, 4096, 128, 64]⟩
abbrev S64x128 : Shape := ⟨2, ![64, 128]⟩
abbrev S_ : Shape := ⟨0, ![]⟩

class Facts : Prop where
  bcast_S_S2x4096x128x64 : S_.BroadcastsInDim S2x4096x128x64 (![] : Fin 0 → Fin S2x4096x128x64.rank)
  reducesTo_S2x4096x128x64_S_d0_1_2_3 : S2x4096x128x64.ReducesTo [0, 1, 2, 3] S_
  h_S_ : 0 < S_.numel

variable [Facts]

def fn {F : FTy → Type} [FloatOps F] (main_arg0 : FVec F S2x4096x128x64 .f32) (main_arg1 : FVec F S64x128 .f32) : IVec S_ 1 :=
  let main_v0 : FVec F S2x4096x128x64 .f32 := Host.absf main_arg0
  let main_cst : FVec F S_ .f32 := constant S_ .f32 0x7F800000#32
  let main_v1 : FVec F S2x4096x128x64 .f32 := broadcastInDim S2x4096x128x64 ![] bcast_S_S2x4096x128x64 main_cst
  let main_v2 : IVec S2x4096x128x64 1 := cmpf .olt main_v0 main_v1
  let main_c : IVec S_ 1 := constantI S_ 1 1#1
  let main_v3 : IVec S_ 1 := (fun x v => Host.reduce IntOp.andi x v reducesTo_S2x4096x128x64_S_d0_1_2_3 h_S_) main_v2 main_c
  main_v3
-- ==== Kernel.lean ====
abbrev S2x128x128x64 : Shape := ⟨4, ![2, 128, 128, 64]⟩
abbrev S64x128 : Shape := ⟨2, ![64, 128]⟩
abbrev S2x128x64x128 : Shape := ⟨4, ![2, 128, 64, 128]⟩
abbrev S2x128x128x128 : Shape := ⟨4, ![2, 128, 128, 128]⟩
abbrev S32x4x64 : Shape := ⟨3, ![32, 4, 64]⟩
abbrev S32 : Shape := ⟨1, ![32]⟩
abbrev S_ : Shape := ⟨0, ![]⟩
abbrev S2x64 : Shape := ⟨2, ![2, 64]⟩
abbrev S4x64 : Shape := ⟨2, ![4, 64]⟩
abbrev S1x4x64 : Shape := ⟨3, ![1, 4, 64]⟩
abbrev S1 : Shape := ⟨1, ![1]⟩
abbrev S2x1x64x1 : Shape := ⟨4, ![2, 1, 64, 1]⟩
abbrev S256x64x128 : Shape := ⟨3, ![256, 64, 128]⟩
abbrev S256x128x128 : Shape := ⟨3, ![256, 128, 128]⟩

abbrev nBuf : Space → Nat
  | .hbm => 4
  | .vmem => 4
  | .smem => 0
  | _ => 0

abbrev bufTy : (tb : Table) → Fin (tcTables nBuf tb) → BufTy
  | .hbm, ⟨0, _⟩ => ⟨S2x128x128x64, .f32⟩
  | .hbm, ⟨1, _⟩ => ⟨S64x128, .f32⟩
  | .hbm, ⟨2, _⟩ => ⟨S2x128x64x128, .f32⟩
  | .hbm, ⟨3, _⟩ => ⟨S2x128x128x128, .bf16⟩
  | .local _ .vmem, ⟨0, _⟩ => ⟨S2x128x64x128, .f32⟩
  | .local _ .vmem, ⟨1, _⟩ => ⟨S64x128, .f32⟩
  | .local _ .vmem, ⟨2, _⟩ => ⟨S2x128x128x128, .bf16⟩
  | .local _ .vmem, ⟨3, _⟩ => ⟨S32x4x64, .f32⟩
  | _, _ => ⟨S2x128x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_dev32 (d0 : Dev nD) : Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_132 : BitVec 32 := 1#32
  let v137 : BitVec 32 := Scalar.addi v2 c1_i32_132
  let c32_i32_133 : BitVec 32 := 32#32
  let v138 : BitVec 32 := Scalar.remsi v137 c32_i32_133
  let c1_i32_138 : BitVec 32 := 1#32
  let v139 : BitVec 32 := Scalar.muli v138 c1_i32_138
  let v140 : BitVec 32 := Scalar.addi c0_i32_139 v139
  v140.toNat
def k0_dev33 (d0 : Dev nD) : Nat :=
  let c0_i32_151 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_144 : BitVec 32 := 2#32
  let v149 : BitVec 32 := Scalar.addi v2 c2_i32_144
  let c32_i32_145 : BitVec 32 := 32#32
  let v150 : BitVec 32 := Scalar.remsi v149 c32_i32_145
  let c1_i32_150 : BitVec 32 := 1#32
  let v151 : BitVec 32 := Scalar.muli v150 c1_i32_150
  let v152 : BitVec 32 := Scalar.addi c0_i32_151 v151
  v152.toNat
def k0_dev34 (d0 : Dev nD) : Nat :=
  let c0_i32_163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_156 : BitVec 32 := 3#32
  let v161 : BitVec 32 := Scalar.addi v2 c3_i32_156
  let c32_i32_157 : BitVec 32 := 32#32
  let v162 : BitVec 32 := Scalar.remsi v161 c32_i32_157
  let c1_i32_162 : BitVec 32 := 1#32
  let v163 : BitVec 32 := Scalar.muli v162 c1_i32_162
  let v164 : BitVec 32 := Scalar.addi c0_i32_163 v163
  v164.toNat
def k0_dev35 (d0 : Dev nD) : Nat :=
  let c0_i32_175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_168 : BitVec 32 := 4#32
  let v173 : BitVec 32 := Scalar.addi v2 c4_i32_168
  let c32_i32_169 : BitVec 32 := 32#32
  let v174 : BitVec 32 := Scalar.remsi v173 c32_i32_169
  let c1_i32_174 : BitVec 32 := 1#32
  let v175 : BitVec 32 := Scalar.muli v174 c1_i32_174
  let v176 : BitVec 32 := Scalar.addi c0_i32_175 v175
  v176.toNat
def k0_dev36 (d0 : Dev nD) : Nat :=
  let c0_i32_187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_180 : BitVec 32 := 5#32
  let v185 : BitVec 32 := Scalar.addi v2 c5_i32_180
  let c32_i32_181 : BitVec 32 := 32#32
  let v186 : BitVec 32 := Scalar.remsi v185 c32_i32_181
  let c1_i32_186 : BitVec 32 := 1#32
  let v187 : BitVec 32 := Scalar.muli v186 c1_i32_186
  let v188 : BitVec 32 := Scalar.addi c0_i32_187 v187
  v188.toNat
def k0_dev37 (d0 : Dev nD) : Nat :=
  let c0_i32_199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_192 : BitVec 32 := 6#32
  let v197 : BitVec 32 := Scalar.addi v2 c6_i32_192
  let c32_i32_193 : BitVec 32 := 32#32
  let v198 : BitVec 32 := Scalar.remsi v197 c32_i32_193
  let c1_i32_198 : BitVec 32 := 1#32
  let v199 : BitVec 32 := Scalar.muli v198 c1_i32_198
  let v200 : BitVec 32 := Scalar.addi c0_i32_199 v199
  v200.toNat
def k0_dev38 (d0 : Dev nD) : Nat :=
  let c0_i32_211 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_204 : BitVec 32 := 7#32
  let v209 : BitVec 32 := Scalar.addi v2 c7_i32_204
  let c32_i32_205 : BitVec 32 := 32#32
  let v210 : BitVec 32 := Scalar.remsi v209 c32_i32_205
  let c1_i32_210 : BitVec 32 := 1#32
  let v211 : BitVec 32 := Scalar.muli v210 c1_i32_210
  let v212 : BitVec 32 := Scalar.addi c0_i32_211 v211
  v212.toNat
def k0_dev39 (d0 : Dev nD) : Nat :=
  let c0_i32_223 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_216 : BitVec 32 := 8#32
  let v221 : BitVec 32 := Scalar.addi v2 c8_i32_216
  let c32_i32_217 : BitVec 32 := 32#32
  let v222 : BitVec 32 := Scalar.remsi v221 c32_i32_217
  let c1_i32_222 : BitVec 32 := 1#32
  let v223 : BitVec 32 := Scalar.muli v222 c1_i32_222
  let v224 : BitVec 32 := Scalar.addi c0_i32_223 v223
  v224.toNat
def k0_dev40 (d0 : Dev nD) : Nat :=
  let c0_i32_235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_228 : BitVec 32 := 9#32
  let v233 : BitVec 32 := Scalar.addi v2 c9_i32_228
  let c32_i32_229 : BitVec 32 := 32#32
  let v234 : BitVec 32 := Scalar.remsi v233 c32_i32_229
  let c1_i32_234 : BitVec 32 := 1#32
  let v235 : BitVec 32 := Scalar.muli v234 c1_i32_234
  let v236 : BitVec 32 := Scalar.addi c0_i32_235 v235
  v236.toNat
def k0_dev41 (d0 : Dev nD) : Nat :=
  let c0_i32_247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_240 : BitVec 32 := 10#32
  let v245 : BitVec 32 := Scalar.addi v2 c10_i32_240
  let c32_i32_241 : BitVec 32 := 32#32
  let v246 : BitVec 32 := Scalar.remsi v245 c32_i32_241
  let c1_i32_246 : BitVec 32 := 1#32
  let v247 : BitVec 32 := Scalar.muli v246 c1_i32_246
  let v248 : BitVec 32 := Scalar.addi c0_i32_247 v247
  v248.toNat
def k0_dev42 (d0 : Dev nD) : Nat :=
  let c0_i32_259 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_252 : BitVec 32 := 11#32
  let v257 : BitVec 32 := Scalar.addi v2 c11_i32_252
  let c32_i32_253 : BitVec 32 := 32#32
  let v258 : BitVec 32 := Scalar.remsi v257 c32_i32_253
  let c1_i32_258 : BitVec 32 := 1#32
  let v259 : BitVec 32 := Scalar.muli v258 c1_i32_258
  let v260 : BitVec 32 := Scalar.addi c0_i32_259 v259
  v260.toNat
def k0_dev43 (d0 : Dev nD) : Nat :=
  let c0_i32_271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_264 : BitVec 32 := 12#32
  let v269 : BitVec 32 := Scalar.addi v2 c12_i32_264
  let c32_i32_265 : BitVec 32 := 32#32
  let v270 : BitVec 32 := Scalar.remsi v269 c32_i32_265
  let c1_i32_270 : BitVec 32 := 1#32
  let v271 : BitVec 32 := Scalar.muli v270 c1_i32_270
  let v272 : BitVec 32 := Scalar.addi c0_i32_271 v271
  v272.toNat
def k0_dev44 (d0 : Dev nD) : Nat :=
  let c0_i32_283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_276 : BitVec 32 := 13#32
  let v281 : BitVec 32 := Scalar.addi v2 c13_i32_276
  let c32_i32_277 : BitVec 32 := 32#32
  let v282 : BitVec 32 := Scalar.remsi v281 c32_i32_277
  let c1_i32_282 : BitVec 32 := 1#32
  let v283 : BitVec 32 := Scalar.muli v282 c1_i32_282
  let v284 : BitVec 32 := Scalar.addi c0_i32_283 v283
  v284.toNat
def k0_dev45 (d0 : Dev nD) : Nat :=
  let c0_i32_295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_288 : BitVec 32 := 14#32
  let v293 : BitVec 32 := Scalar.addi v2 c14_i32_288
  let c32_i32_289 : BitVec 32 := 32#32
  let v294 : BitVec 32 := Scalar.remsi v293 c32_i32_289
  let c1_i32_294 : BitVec 32 := 1#32
  let v295 : BitVec 32 := Scalar.muli v294 c1_i32_294
  let v296 : BitVec 32 := Scalar.addi c0_i32_295 v295
  v296.toNat
def k0_dev46 (d0 : Dev nD) : Nat :=
  let c0_i32_307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_300 : BitVec 32 := 15#32
  let v305 : BitVec 32 := Scalar.addi v2 c15_i32_300
  let c32_i32_301 : BitVec 32 := 32#32
  let v306 : BitVec 32 := Scalar.remsi v305 c32_i32_301
  let c1_i32_306 : BitVec 32 := 1#32
  let v307 : BitVec 32 := Scalar.muli v306 c1_i32_306
  let v308 : BitVec 32 := Scalar.addi c0_i32_307 v307
  v308.toNat
def k0_dev47 (d0 : Dev nD) : Nat :=
  let c0_i32_319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_312 : BitVec 32 := 16#32
  let v317 : BitVec 32 := Scalar.addi v2 c16_i32_312
  let c32_i32_313 : BitVec 32 := 32#32
  let v318 : BitVec 32 := Scalar.remsi v317 c32_i32_313
  let c1_i32_318 : BitVec 32 := 1#32
  let v319 : BitVec 32 := Scalar.muli v318 c1_i32_318
  let v320 : BitVec 32 := Scalar.addi c0_i32_319 v319
  v320.toNat
def k0_dev48 (d0 : Dev nD) : Nat :=
  let c0_i32_331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_324 : BitVec 32 := 17#32
  let v329 : BitVec 32 := Scalar.addi v2 c17_i32_324
  let c32_i32_325 : BitVec 32 := 32#32
  let v330 : BitVec 32 := Scalar.remsi v329 c32_i32_325
  let c1_i32_330 : BitVec 32 := 1#32
  let v331 : BitVec 32 := Scalar.muli v330 c1_i32_330
  let v332 : BitVec 32 := Scalar.addi c0_i32_331 v331
  v332.toNat
def k0_dev49 (d0 : Dev nD) : Nat :=
  let c0_i32_343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_336 : BitVec 32 := 18#32
  let v341 : BitVec 32 := Scalar.addi v2 c18_i32_336
  let c32_i32_337 : BitVec 32 := 32#32
  let v342 : BitVec 32 := Scalar.remsi v341 c32_i32_337
  let c1_i32_342 : BitVec 32 := 1#32
  let v343 : BitVec 32 := Scalar.muli v342 c1_i32_342
  let v344 : BitVec 32 := Scalar.addi c0_i32_343 v343
  v344.toNat
def k0_dev50 (d0 : Dev nD) : Nat :=
  let c0_i32_355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_348 : BitVec 32 := 19#32
  let v353 : BitVec 32 := Scalar.addi v2 c19_i32_348
  let c32_i32_349 : BitVec 32 := 32#32
  let v354 : BitVec 32 := Scalar.remsi v353 c32_i32_349
  let c1_i32_354 : BitVec 32 := 1#32
  let v355 : BitVec 32 := Scalar.muli v354 c1_i32_354
  let v356 : BitVec 32 := Scalar.addi c0_i32_355 v355
  v356.toNat
def k0_dev51 (d0 : Dev nD) : Nat :=
  let c0_i32_367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_360 : BitVec 32 := 20#32
  let v365 : BitVec 32 := Scalar.addi v2 c20_i32_360
  let c32_i32_361 : BitVec 32 := 32#32
  let v366 : BitVec 32 := Scalar.remsi v365 c32_i32_361
  let c1_i32_366 : BitVec 32 := 1#32
  let v367 : BitVec 32 := Scalar.muli v366 c1_i32_366
  let v368 : BitVec 32 := Scalar.addi c0_i32_367 v367
  v368.toNat
def k0_dev52 (d0 : Dev nD) : Nat :=
  let c0_i32_379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_372 : BitVec 32 := 21#32
  let v377 : BitVec 32 := Scalar.addi v2 c21_i32_372
  let c32_i32_373 : BitVec 32 := 32#32
  let v378 : BitVec 32 := Scalar.remsi v377 c32_i32_373
  let c1_i32_378 : BitVec 32 := 1#32
  let v379 : BitVec 32 := Scalar.muli v378 c1_i32_378
  let v380 : BitVec 32 := Scalar.addi c0_i32_379 v379
  v380.toNat
def k0_dev53 (d0 : Dev nD) : Nat :=
  let c0_i32_391 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_384 : BitVec 32 := 22#32
  let v389 : BitVec 32 := Scalar.addi v2 c22_i32_384
  let c32_i32_385 : BitVec 32 := 32#32
  let v390 : BitVec 32 := Scalar.remsi v389 c32_i32_385
  let c1_i32_390 : BitVec 32 := 1#32
  let v391 : BitVec 32 := Scalar.muli v390 c1_i32_390
  let v392 : BitVec 32 := Scalar.addi c0_i32_391 v391
  v392.toNat
def k0_dev54 (d0 : Dev nD) : Nat :=
  let c0_i32_403 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_396 : BitVec 32 := 23#32
  let v401 : BitVec 32 := Scalar.addi v2 c23_i32_396
  let c32_i32_397 : BitVec 32 := 32#32
  let v402 : BitVec 32 := Scalar.remsi v401 c32_i32_397
  let c1_i32_402 : BitVec 32 := 1#32
  let v403 : BitVec 32 := Scalar.muli v402 c1_i32_402
  let v404 : BitVec 32 := Scalar.addi c0_i32_403 v403
  v404.toNat
def k0_dev55 (d0 : Dev nD) : Nat :=
  let c0_i32_415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_408 : BitVec 32 := 24#32
  let v413 : BitVec 32 := Scalar.addi v2 c24_i32_408
  let c32_i32_409 : BitVec 32 := 32#32
  let v414 : BitVec 32 := Scalar.remsi v413 c32_i32_409
  let c1_i32_414 : BitVec 32 := 1#32
  let v415 : BitVec 32 := Scalar.muli v414 c1_i32_414
  let v416 : BitVec 32 := Scalar.addi c0_i32_415 v415
  v416.toNat
def k0_dev56 (d0 : Dev nD) : Nat :=
  let c0_i32_427 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_420 : BitVec 32 := 25#32
  let v425 : BitVec 32 := Scalar.addi v2 c25_i32_420
  let c32_i32_421 : BitVec 32 := 32#32
  let v426 : BitVec 32 := Scalar.remsi v425 c32_i32_421
  let c1_i32_426 : BitVec 32 := 1#32
  let v427 : BitVec 32 := Scalar.muli v426 c1_i32_426
  let v428 : BitVec 32 := Scalar.addi c0_i32_427 v427
  v428.toNat
def k0_dev57 (d0 : Dev nD) : Nat :=
  let c0_i32_439 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_432 : BitVec 32 := 26#32
  let v437 : BitVec 32 := Scalar.addi v2 c26_i32_432
  let c32_i32_433 : BitVec 32 := 32#32
  let v438 : BitVec 32 := Scalar.remsi v437 c32_i32_433
  let c1_i32_438 : BitVec 32 := 1#32
  let v439 : BitVec 32 := Scalar.muli v438 c1_i32_438
  let v440 : BitVec 32 := Scalar.addi c0_i32_439 v439
  v440.toNat
def k0_dev58 (d0 : Dev nD) : Nat :=
  let c0_i32_451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_444 : BitVec 32 := 27#32
  let v449 : BitVec 32 := Scalar.addi v2 c27_i32_444
  let c32_i32_445 : BitVec 32 := 32#32
  let v450 : BitVec 32 := Scalar.remsi v449 c32_i32_445
  let c1_i32_450 : BitVec 32 := 1#32
  let v451 : BitVec 32 := Scalar.muli v450 c1_i32_450
  let v452 : BitVec 32 := Scalar.addi c0_i32_451 v451
  v452.toNat
def k0_dev59 (d0 : Dev nD) : Nat :=
  let c0_i32_463 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_456 : BitVec 32 := 28#32
  let v461 : BitVec 32 := Scalar.addi v2 c28_i32_456
  let c32_i32_457 : BitVec 32 := 32#32
  let v462 : BitVec 32 := Scalar.remsi v461 c32_i32_457
  let c1_i32_462 : BitVec 32 := 1#32
  let v463 : BitVec 32 := Scalar.muli v462 c1_i32_462
  let v464 : BitVec 32 := Scalar.addi c0_i32_463 v463
  v464.toNat
def k0_dev60 (d0 : Dev nD) : Nat :=
  let c0_i32_475 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_468 : BitVec 32 := 29#32
  let v473 : BitVec 32 := Scalar.addi v2 c29_i32_468
  let c32_i32_469 : BitVec 32 := 32#32
  let v474 : BitVec 32 := Scalar.remsi v473 c32_i32_469
  let c1_i32_474 : BitVec 32 := 1#32
  let v475 : BitVec 32 := Scalar.muli v474 c1_i32_474
  let v476 : BitVec 32 := Scalar.addi c0_i32_475 v475
  v476.toNat
def k0_dev61 (d0 : Dev nD) : Nat :=
  let c0_i32_487 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_480 : BitVec 32 := 30#32
  let v485 : BitVec 32 := Scalar.addi v2 c30_i32_480
  let c32_i32_481 : BitVec 32 := 32#32
  let v486 : BitVec 32 := Scalar.remsi v485 c32_i32_481
  let c1_i32_486 : BitVec 32 := 1#32
  let v487 : BitVec 32 := Scalar.muli v486 c1_i32_486
  let v488 : BitVec 32 := Scalar.addi c0_i32_487 v487
  v488.toNat
def k0_dev62 (d0 : Dev nD) : Nat :=
  let c0_i32_499 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_492 : BitVec 32 := 31#32
  let v497 : BitVec 32 := Scalar.addi v2 c31_i32_492
  let c32_i32_493 : BitVec 32 := 32#32
  let v498 : BitVec 32 := Scalar.remsi v497 c32_i32_493
  let c1_i32_498 : BitVec 32 := 1#32
  let v499 : BitVec 32 := Scalar.muli v498 c1_i32_498
  let v500 : BitVec 32 := Scalar.addi c0_i32_499 v499
  v500.toNat
abbrev stage0_0 : Fin 1 → Memref sig .tc .vmem S2x128x64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x4096x128x64 : Shape := ⟨4, ![2, 4096, 128, 64]⟩
abbrev S64x128 : Shape := ⟨2, ![64, 128]⟩
abbrev S_ : Shape := ⟨0, ![]⟩
abbrev S2x64 : Shape := ⟨2, ![2, 64]⟩
abbrev S2x1x1x64 : Shape := ⟨4, ![2, 1, 1, 64]⟩
abbrev S1048576x64 : Shape := ⟨2, ![1048576, 64]⟩
abbrev S1048576x128 : Shape := ⟨2, ![1048576, 128]⟩
abbrev S2x4096x128x128 : Shape := ⟨4, ![2, 4096, 128, 128]⟩

abbrev nBuf : Space → Nat
  | .hbm => 50
  | .vmem => 0
  | .smem => 0
  | _ => 0

abbrev bufTy : (tb : Table) → Fin (tcTables nBuf tb) → BufTy
  | .hbm, ⟨0, _⟩ => ⟨S2x4096x128x64, .f32⟩
  | .hbm, ⟨1, _⟩ => ⟨S64x128, .f32⟩
  | .hbm, ⟨2, _⟩ => ⟨S_, .f32⟩
  | .hbm, ⟨3, _⟩ => ⟨S2x64, .f32⟩
  | .hbm, ⟨4, _⟩ => ⟨S2x1x1x64, .f32⟩
  | .hbm, ⟨5, _⟩ => ⟨S_, .f32⟩
  | .hbm, ⟨6, _⟩ => ⟨S2x1x1x64, .f32⟩
  | .hbm, ⟨7, _⟩ => ⟨S2x1x1x64, .f32⟩
  | .hbm, ⟨8, _⟩ => ⟨S_, .i32⟩
  | .hbm, ⟨9, _⟩ => ⟨S_, .f32⟩
  | .hbm, ⟨10, _⟩ => ⟨S2x64, .f32⟩
  | .hbm, ⟨11, _⟩ => ⟨S2x1x1x64, .f32⟩
  | .hbm, ⟨12, _⟩ => ⟨S_, .f32⟩
  | .hbm, ⟨13, _⟩ => ⟨S2x1x1x64, .f32⟩
  | .hbm, ⟨14, _⟩ => ⟨S2x1x1x64, .f32⟩
  | .hbm, ⟨15, _⟩ => ⟨S2x4096x128x64, .f32⟩
  | .hbm, ⟨16, _⟩ => ⟨S2x4096x128x64, .f32⟩
  | .hbm, ⟨17, _⟩ => ⟨S2x4096x128x64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2x64, .f32⟩
  | .hbm, ⟨23, _⟩ => ⟨S2x1x1x64, .f32⟩
  | .hbm, ⟨24, _⟩ => ⟨S2x1x1x64, .f32⟩
  | .hbm, ⟨25, _⟩ => ⟨S2x1x1x64, .f32⟩
  | .hbm, ⟨26, _⟩ => ⟨S_, .f32⟩
  | .hbm, ⟨27, _⟩ => ⟨S_, .i1⟩
  | .hbm, ⟨28, _⟩ => ⟨S_, .f32⟩
  | .hbm, ⟨29, _⟩ => ⟨S_, .f32⟩
  | .hbm, ⟨30, _⟩ => ⟨S2x1x1x64, .f32⟩
  | .hbm, ⟨31, _⟩ => ⟨S2x1x1x64, .f32⟩
  | .hbm, ⟨32, _⟩ => ⟨S2x4096x128x64, .f32⟩
  | .hbm, ⟨33, _⟩ => ⟨S2x4096x128x64, .f32⟩
  | .hbm, ⟨34, _⟩ => ⟨S_, .f32⟩
  | .hbm, ⟨35, _⟩ => ⟨S2x1x1x64, .f32⟩
  | .hbm, ⟨36, _⟩ => ⟨S2x1x1x64, .f32⟩
  | .hbm, ⟨37, _⟩ => ⟨S2x1x1x64, .f32⟩
  | .hbm, ⟨38, _⟩ => ⟨S2x4096x128x64, .f32⟩
  | .hbm, ⟨39, _⟩ => ⟨S2x4096x128x64, .f32⟩
  | .hbm, ⟨40, _⟩ => ⟨S2x4096x128x64, .f32⟩
  | .hbm, ⟨41, _⟩ => ⟨S2x4096x128x64, .f32⟩
  | .hbm, ⟨42, _⟩ => ⟨S_, .f32⟩
  | .hbm, ⟨43, _⟩ => ⟨S2x4096x128x64, .f32⟩
  | .hbm, ⟨44, _⟩ => ⟨S2x4096x128x64, .f32⟩
  | .hbm, ⟨45, _⟩ => ⟨S2x4096x128x64, .f32⟩
  | .hbm, ⟨46, _⟩ => ⟨S1048576x64, .f32⟩
  | .hbm, ⟨47, _⟩ => ⟨S1048576x128, .f32⟩
  | .hbm, ⟨48, _⟩ => ⟨S2x4096x128x128, .f32⟩
  | .hbm, ⟨49, _⟩ => ⟨S2x4096x128x128, .bf16⟩
  | _, _ => ⟨S2x4096x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_cst_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_1 : Ref sig .tc := ⟨.hbm, 19, rfl⟩
abbrev main_call0_v8 : Ref sig .tc := ⟨.hbm, 20, rfl⟩
abbrev main_call0_cst_2 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_cst_3 : Ref sig .tc := ⟨.hbm, 26, rfl⟩
abbrev main_call0_v13 : Ref sig .tc := ⟨.hbm, 27, rfl⟩
abbrev main_call0_cst_4 : Ref sig .tc := ⟨.hbm, 28, rfl⟩
abbrev main_call0_call0_v0 : Ref sig .tc := ⟨.hbm, 29, rfl⟩
abbrev main_call0_call0_v1 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst_1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_2 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩

abbrev nD : Nat := 1
abbrev τ : Topo := Topo.v7x

variable {F : FTy → Type} [FloatOps F]
-- ==== Proof.Model.lean ====
/-
The kernel's body as a program over OFFSETS: the 31 signals, the 31 copies, the 31 waits for what was sent and the 31 waits for
what arrives are each one operation run over a list of offsets. The printed body is this program by definitional unfolding.
-/
module

public import proofs.«01_k».proof.Proof.Gen.KernelIdeal
public import proofs.«01_k».proof.Proof.Gen.KernelIdeal.Skeleton
public import proofs.«01_k».proof.Proof.Gen.KernelIdeal.Points
public import Idealize.ShloMosaic.Lib.Pipeline.Regions

@[expose] public section

noncomputable section

namespace Cert.Moments

open Cert.KernelIdeal Cert.KernelIdeal.Gen
open Idealize.ShloMosaic Idealize.ShloMosaic.TcCoe
open Idealize.SL Idealize.SL.Sem

variable {F : FTy → Type} [FloatOps F]

/-- An offset between two devices of the ring of 32: `i` stands for the distance `i + 1`. -/
abbrev Off : Type := Fin 31

/-- The offsets in the order the kernel takes them. -/
def offs : List Off := [0, 1, 2, 3, 4, 5, 6, 7, 8, 9, 10, 11, 12, 13, 14, 15, 16, 17, 18, 19, 20, 21, 22, 23, 24, 25, 26, 27, 28, 29, 30]

/-- `f` at each offset of a list in turn, then the rest of the program. -/
def each {E : Type → Type} {α : Type} : List Off → (Off → Prog E PUnit) → Prog E α → Prog E α
  | [], _, K => K
  | i :: l, f, K => (f i).bind fun _ => each l f K

/-- Row `k` of the scratch buffer lies inside it. -/
theorem row_inb (k : Fin 32) : ∀ a, (![k.val, 0, 0] : Fin 3 → ℕ) a + S1x4x64.size a ≤ S32x4x64.size a := by
  revert k; decide
/-- Semaphore `k` of an array of 32 lies inside it. -/
theorem sem_inb (k : Fin 32) : ∀ a, (![k.val] : Fin 1 → ℕ) a + S1.size a ≤ S32.size a := by
  revert k; decide

/-- The rectangle of row `k` of the scratch buffer. -/
abbrev rowR (k : Fin 32) : Rect S32x4x64 := Rect.unit (s := S32x4x64) ![k.val, 0, 0] S1x4x64.size (row_inb k)
/-- The scratch buffer whole. -/
abbrev scM : Memref sig .tc .vmem S32x4x64 .f32 := Memref.whole cc0_scratch0
/-- Row `k` of the scratch buffer, as the copies name it. -/
abbrev rowM (k : Fin 32) : Memref sig .tc .vmem S4x64 .f32 :=
  ((Memref.whole cc0_scratch0 : Memref sig .tc .vmem S32x4x64 .f32).slice (rowR k) (fun _ => rfl)).squeeze S4x64 squeezes_S1x4x64_S4x64
/-- The row an offset's copy lands in. -/
abbrev offRow (i : Off) : Fin 32 := i.succ
/-- The semaphore an offset's copy completes on at its source. -/
abbrev sendS (i : Off) : DmaSem sig := ((cc0_scratch1.slice (Rect.unit (s := S32) ![(offRow i).val] S1.size (sem_inb (offRow i)))).squeeze S_ squeezes_S1_S_).sem
/-- The semaphore it completes on at its target. -/
abbrev recvS (i : Off) : DmaSem sig := ((cc0_scratch2.slice (Rect.unit (s := S32) ![(offRow i).val] S1.size (sem_inb (offRow i)))).squeeze S_ squeezes_S1_S_).sem

/-- The device an offset's signal addresses, as printed. -/
def sigDev : Off → Dev nD → Dev nD := ![
  fun d => ⟨k0_dev1 d, k0_dev1_lt d⟩,
  fun d => ⟨k0_dev2 d, k0_dev2_lt d⟩,
  fun d => ⟨k0_dev3 d, k0_dev3_lt d⟩,
  fun d => ⟨k0_dev4 d, k0_dev4_lt d⟩,
  fun d => ⟨k0_dev5 d, k0_dev5_lt d⟩,
  fun d => ⟨k0_dev6 d, k0_dev6_lt d⟩,
  fun d => ⟨k0_dev7 d, k0_dev7_lt d⟩,
  fun d => ⟨k0_dev8 d, k0_dev8_lt d⟩,
  fun d => ⟨k0_dev9 d, k0_dev9_lt d⟩,
  fun d => ⟨k0_dev10 d, k0_dev10_lt d⟩,
  fun d => ⟨k0_dev11 d, k0_dev11_lt d⟩,
  fun d => ⟨k0_dev12 d, k0_dev12_lt d⟩,
  fun d => ⟨k0_dev13 d, k0_dev13_lt d⟩,
  fun d => ⟨k0_dev14 d, k0_dev14_lt d⟩,
  fun d => ⟨k0_dev15 d, k0_dev15_lt d⟩,
  fun d => ⟨k0_dev16 d, k0_dev16_lt d⟩,
  fun d => ⟨k0_dev17 d, k0_dev17_lt d⟩,
  fun d => ⟨k0_dev18 d, k0_dev18_lt d⟩,
  fun d => ⟨k0_dev19 d, k0_dev19_lt d⟩,
  fun d => ⟨k0_dev20 d, k0_dev20_lt d⟩,
  fun d => ⟨k0_dev21 d, k0_dev21_lt d⟩,
  fun d => ⟨k0_dev22 d, k0_dev22_lt d⟩,
  fun d => ⟨k0_dev23 d, k0_dev23_lt d⟩,
  fun d => ⟨k0_dev24 d, k0_dev24_lt d⟩,
  fun d => ⟨k0_dev25 d, k0_dev25_lt d⟩,
  fun d => ⟨k0_dev26 d, k0_dev26_lt d⟩,
  fun d => ⟨k0_dev27 d, k0_dev27_lt d⟩,
  fun d => ⟨k0_dev28 d, k0_dev28_lt d⟩,
  fun d => ⟨k0_dev29 d, k0_dev29_lt d⟩,
  fun d => ⟨k0_dev30 d, k0_dev30_lt d⟩,
  fun d => ⟨k0_dev31 d, k0_dev31_lt d⟩]
/-- The device an offset's copy addresses, as printed. -/
def cpyDev : Off → Dev nD → Dev nD := ![
  fun d => ⟨k0_dev32 d, k0_dev32_lt d⟩,
  fun d => ⟨k0_dev33 d, k0_dev33_lt d⟩,
  fun d => ⟨k0_dev34 d, k0_dev34_lt d⟩,
  fun d => ⟨k0_dev35 d, k0_dev35_lt d⟩,
  fun d => ⟨k0_dev36 d, k0_dev36_lt d⟩,
  fun d => ⟨k0_dev37 d, k0_dev37_lt d⟩,
  fun d => ⟨k0_dev38 d, k0_dev38_lt d⟩,
  fun d => ⟨k0_dev39 d, k0_dev39_lt d⟩,
  fun d => ⟨k0_dev40 d, k0_dev40_lt d⟩,
  fun d => ⟨k0_dev41 d, k0_dev41_lt d⟩,
  fun d => ⟨k0_dev42 d, k0_dev42_lt d⟩,
  fun d => ⟨k0_dev43 d, k0_dev43_lt d⟩,
  fun d => ⟨k0_dev44 d, k0_dev44_lt d⟩,
  fun d => ⟨k0_dev45 d, k0_dev45_lt d⟩,
  fun d => ⟨k0_dev46 d, k0_dev46_lt d⟩,
  fun d => ⟨k0_dev47 d, k0_dev47_lt d⟩,
  fun d => ⟨k0_dev48 d, k0_dev48_lt d⟩,
  fun d => ⟨k0_dev49 d, k0_dev49_lt d⟩,
  fun d => ⟨k0_dev50 d, k0_dev50_lt d⟩,
  fun d => ⟨k0_dev51 d, k0_dev51_lt d⟩,
  fun d => ⟨k0_dev52 d, k0_dev52_lt d⟩,
  fun d => ⟨k0_dev53 d, k0_dev53_lt d⟩,
  fun d => ⟨k0_dev54 d, k0_dev54_lt d⟩,
  fun d => ⟨k0_dev55 d, k0_dev55_lt d⟩,
  fun d => ⟨k0_dev56 d, k0_dev56_lt d⟩,
  fun d => ⟨k0_dev57 d, k0_dev57_lt d⟩,
  fun d => ⟨k0_dev58 d, k0_dev58_lt d⟩,
  fun d => ⟨k0_dev59 d, k0_dev59_lt d⟩,
  fun d => ⟨k0_dev60 d, k0_dev60_lt d⟩,
  fun d => ⟨k0_dev61 d, k0_dev61_lt d⟩,
  fun d => ⟨k0_dev62 d, k0_dev62_lt d⟩]

/-- The device `i + 1` further round the ring. -/
def pr (c : Dev nD) (i : Off) : Dev nD := ⟨(c.val + (i.val + 1)) % 32, Nat.mod_lt _ (by decide)⟩

theorem sigDev_eq (i : Off) (c : Dev nD) : sigDev i c = pr c i := by revert i c; decide +kernel
theorem cpyDev_eq (i : Off) (c : Dev nD) : cpyDev i c = pr c i := by revert i c; decide +kernel

/-- The kernel's body over the two tables of addressed devices. -/
def bodyOf (sd cd : Off → Dev nD → Dev nD)
    (a0 : Memref sig .tc .vmem S2x128x64x128 .f32) (a1 : Memref sig .tc .vmem S64x128 .f32)
    (a2 : Memref sig .tc .vmem S2x128x128x128 .bf16) (h2 : a2.IsWhole) :
    Prog (TpuEff nD τ sig (Elt F) Λ₀ .tc) PUnit :=
  .op .deviceId fun c =>
  each offs (fun i => .op (.semSignal (Dev.tc (sd i c)) barrier0 1) .ret) <|
  .op (.load a0 (Rect.unit (s := S2x128x64x128) ![0, 0, 0, 0] S2x128x64x128.size inb_S2x128x64x128_S2x128x64x128_0_0_0_0).toLoadRect (View.loadsAt_vmem h_S2x128x64x128)) fun (x : Vec F S2x128x64x128 .f32) =>
  .op (.load scM (rowR 0).toLoadRect (View.loadsAt_vmem h_S1x4x64)) fun _ =>
  .op (.store scM (rowR 0) (k0_pay2 x) Finset.univ (View.stores_vmem_bits_univ h_S1x4x64 rfl) (.inl rfl)) fun _ =>
  .op (.semWait barrier0 31) fun _ =>
  each offs (fun i => .op (.enqueueDma (rowM 0) (.remote (Dev.tc (cd i c)) (rowM (offRow i)) (.dma (sendS i))) (.dma (recvS i))
    ((View.wordExact_bits rfl).reshape _ _) ((View.wordExact_bits rfl).reshape _ _) ⟨⟨rfl, Or.inl rfl⟩, trivial⟩) .ret) <|
  each offs (fun i => .op (.waitDma2 (sendS i) (rowM (offRow i)) (rowM 0) ((View.wordExact_bits rfl).reshape _ _) ((View.wordExact_bits rfl).reshape _ _)) .ret) <|
  each offs (fun i => .op (.waitDma2 (recvS i) (rowM 0) (rowM (offRow i)) ((View.wordExact_bits rfl).reshape _ _) ((View.wordExact_bits rfl).reshape _ _)) .ret) <|
  .op (.load scM (Rect.unit (s := S32x4x64) ![0, 0, 0] S32x4x64.size inb_S32x4x64_S32x4x64_0_0_0).toLoadRect (View.loadsAt_vmem h_S32x4x64)) fun (g : Vec F S32x4x64 .f32) =>
  .op (.load a1 (Rect.unit (s := S64x128) ![0, 0] S64x128.size inb_S64x128_S64x128_0_0).toLoadRect (View.loadsAt_vmem h_S64x128)) fun (w : Vec F S64x128 .f32) =>
  .op (.load a2 (Rect.unit (s := S2x128x128x128) ![0, 0, 0, 0] S2x128x128x128.size inb_S2x128x128x128_S2x128x128x128_0_0_0_0).toLoadRect (View.loadsAt_vmem h_S2x128x128x128)) fun _ =>
  .op (.store a2 (Rect.unit (s := S2x128x128x128) ![0, 0, 0, 0] S2x128x128x128.size inb_S2x128x128x128_S2x128x128x128_0_0_0_0)
    (k0_pay7 (k0_pay1 x) (k0_pay5 g) (k0_pay6 g) w) Finset.univ
    (View.stores_vmem h_S2x128x128x128 (h2.storeExact_slice rfl _ packedbf16_S2x128x128x128_S2x128x128x128_0_0_0_0) (fun _ => rfl)) (.inl rfl)) .ret

set_option maxRecDepth 65536 in
/-- The printed body, on the scratch buffer and the semaphores it is called with. -/
theorem body_printed (a0 : Memref sig .tc .vmem S2x128x64x128 .f32) (h0 : a0.IsWhole) (a1 : Memref sig .tc .vmem S64x128 .f32) (h1 : a1.IsWhole)
    (a2 : Memref sig .tc .vmem S2x128x128x128 .bf16) (h2 : a2.IsWhole) :
    cc0_body (F := F) a0 h0 a1 h1 a2 h2 (Memref.whole cc0_scratch0) (Memref.isWhole_whole _) cc0_scratch1 cc0_scratch2
      = bodyOf sigDev cpyDev a0 a1 a2 h2 := by
  chain_rfl

/-- The body over ring distances. -/
theorem body_eq (a0 : Memref sig .tc .vmem S2x128x64x128 .f32) (h0 : a0.IsWhole) (a1 : Memref sig .tc .vmem S64x128 .f32) (h1 : a1.IsWhole)
    (a2 : Memref sig .tc .vmem S2x128x128x128 .bf16) (h2 : a2.IsWhole) :
    cc0_body (F := F) a0 h0 a1 h1 a2 h2 (Memref.whole cc0_scratch0) (Memref.isWhole_whole _) cc0_scratch1 cc0_scratch2
      = bodyOf (fun i c => pr c i) (fun i c => pr c i) a0 a1 a2 h2 := by
  rw [body_printed, show sigDev = fun i c => pr c i from funext fun i => funext fun c => sigDev_eq i c,
    show cpyDev = fun i c => pr c i from funext fun i => funext fun c => cpyDev_eq i c]

end Cert.Moments

end
-- ==== Proof.Proto.lean ====
/-
The protocol between the 32 devices. Offsets `i` stand for the ring distance `i + 1`; `pr c i` is the device that far past `c`.

  BARRIER cell of a device p (one regular semaphore): 31 duties, one per offset d, one unit each. Duty d is paid by `pr p d`, with the
    row `d + 1` of ITS scratch buffer, at whatever contents, and that its receive cell d has reached round 0. Device p waits for all 31.
    (A signal at distance i + 1 pays duty `rev i` of its target: the way back from the target is `31 - i` long.)
  SEND cell i of a device c: one duty, paid by c's own copy to `pr c i`, with the share of c's row 0 the copy reads.
  RECEIVE cell i of a device c: one duty, paid by the copy of the device i + 1 before c, with c's row `i + 1`, holding that device's statistics.
-/
module

public import proofs.«01_k».proof.Proof.Model
public import proofs.«01_k».proof.Proof.Gen.KernelIdeal.Launch
public import Idealize.ShloMosaic.Lib.Rounds
public import Idealize.ShloMosaic.Lib.Rounds.Family
public import Idealize.ShloMosaic.Lib.Transfers
public import Idealize.ShloMosaic.Lib.Ring
public import Idealize.ShloMosaic.Lib.Pipeline.BigSepL
public import Idealize.ShloMosaic.Lib.Pipeline.Kit
public import Idealize.ShloMosaic.Lib.Tactic

@[expose] public section

noncomputable section

namespace Cert.Moments

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's rounds and the protocol's, whose duties are named by offsets. -/
abbrev UB : Type := URounds (GSem nD τ sig) Off
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Ring arithmetic -/

/-- Out by an offset and on by its reverse is once round. -/
theorem pr_rev (c : Dev nD) (i : Off) : pr (pr c i) i.rev = c := by revert i c; decide +kernel
/-- The device whose statistics row `k` of device `c` ends with. -/
def frm (c : Dev nD) (k : Fin 32) : Dev nD := ⟨(c.val + (32 - k.val)) % 32, Nat.mod_lt _ (by decide)⟩
theorem frm_zero (c : Dev nD) : frm c 0 = c := by revert c; decide +kernel
theorem frm_pr (c : Dev nD) (i : Off) : frm (pr c i) (offRow i) = c := by revert i c; decide +kernel

/-- Moving every device by an offset permutes the devices. -/
def prEquiv (i : Off) : Dev nD ≃ Dev nD := ⟨fun c => pr c i, fun c => pr c i.rev, fun c => pr_rev c i, fun c => by
  have := pr_rev c i.rev; rwa [Fin.rev_rev] at this⟩

/-! ## Semaphores and cells -/

theorem sendS_val (i : Off) : (sendS i).val = i.val + 4 := by revert i; decide +kernel
theorem recvS_val (i : Off) : (recvS i).val = i.val + 36 := by revert i; decide +kernel

abbrev barCell (c : Dev nD) : GSem nD τ sig := ((c : Thread nD τ), .reg barrier0)
abbrev sendCell (c : Dev nD) (i : Off) : GSem nD τ sig := ((c : Thread nD τ), .dma (sendS i))
abbrev recvCell (c : Dev nD) (i : Off) : GSem nD τ sig := ((c : Thread nD τ), .dma (recvS i))

/-- The offset a DMA semaphore's number names, counted from `o`. -/
def offAt (o n : ℕ) : Off := ⟨(n - o) % 31, Nat.mod_lt _ (by decide)⟩
theorem offAt_send (i : Off) : offAt 4 (sendS i).val = i := by rw [sendS_val]; revert i; decide
theorem offAt_recv (i : Off) : offAt 36 (recvS i).val = i := by rw [recvS_val]; revert i; decide

/-- What one copy credits. -/
abbrev N : ℕ := (rowM 0).view.dmaCredit
theorem N_pos : 0 < N := View.dmaCredit_pos _ (by decide)

/-! ## Contents -/

variable (X : Dev nD → Vec F S2x128x64x128 .f32)

/-- A device's statistics: per channel the sums of its block and of the squares of its block. -/
def stats (c : Dev nD) : FVec F S1x4x64 .f32 := k0_pay2 (X c)

/-- An element of the scratch buffer as an element of its row. -/
def inRow (j : S32x4x64.Idx) : S1x4x64.Idx := fun | 0 => (⟨0, Nat.one_pos⟩ : Fin 1) | 1 => j 1 | 2 => j 2

/-- Device `c`'s scratch buffer once everything has arrived: row `k` holds the statistics of the device `k` before it. -/
def gathered (c : Dev nD) : (cc0_scratch0 : Ref sig .tc).ty.Contents (Elt F) :=
  fun (j : S32x4x64.Idx) => (stats X (frm c (j 0)) (inRow j) : F .f32)

/-- Row `k` of device `c`'s scratch buffer, at a share, at contents `f`. -/
abbrev rPts (c : Dev nD) (k : Fin 32) (q : PosShare TreeShare) (f : Buf (Elt F) ((rowM k).view.loc (c : Thread nD τ))) : sProp 𝕄 :=
  (rowM k).view.loc (c : Thread nD τ) ↦[(rowM k).view.set]{q} f

/-- The share of row 0 an offset's copy reads. -/
abbrev shr (i : Off) : PosShare TreeShare := Transfers.shareTok fullShare 31 i

theorem row_set (k : Fin 32) : (rowM k).view.set = (rowR k).set :=
  (((View.whole cc0_scratch0).slice (rowR k)).set_reshape squeezes_S1x4x64_S4x64.numel_eq).trans (View.set_slice_whole _ _)

/-- The rows cut the scratch buffer. -/
theorem rows_disjoint (k k' : Fin 32) (h : k ≠ k') : Disjoint (rowR k).set (rowR k').set :=
  Ring.lead_disjoint (s := S32x4x64) (0 : Fin 3) 1 (fun k : Fin 32 => ![k.val, 0, 0]) S1x4x64.size row_inb (fun k => (Nat.one_mul _).symm) rfl k k' h
theorem rows_cover : Finset.univ.biUnion (fun k : Fin 32 => (rowR k).set) = Finset.univ :=
  Ring.lead_cover (s := S32x4x64) (0 : Fin 3) 1 (fun k : Fin 32 => ![k.val, 0, 0]) S1x4x64.size row_inb (fun k => (Nat.one_mul _).symm)
    (fun k a ha => by revert a; revert k; decide) rfl (by decide) rfl

/-! ## The schedule -/

/-- Paid to device `c`'s barrier cell as duty `d`. -/
def barPay (c : Dev nD) (d : Off) : sProp 𝕄 := iprop((∃ f, rPts (pr c d) (offRow d) fullShare f) ∗ reached ER (recvCell (pr c d) d) 0)
/-- Paid to device `c`'s send cell `i`. -/
def sendPay (c : Dev nD) (i : Off) : sProp 𝕄 := rPts c 0 (shr i) (gathered X c)
/-- Paid to device `c`'s receive cell `i`. -/
def recvPay (c : Dev nD) (i : Off) : sProp 𝕄 := rPts c (offRow i) fullShare (gathered X c)

/-- What a cell is paid, by its semaphore. -/
def payOf (c : Dev nD) (d : Off) : SemLoc sig → sProp 𝕄
  | .reg _ => barPay c d
  | .dma s => if s.val < 35 then sendPay X c (offAt 4 s.val) else recvPay X c (offAt 36 s.val)

/-- The schedule: one round. -/
def talkRd : Rounds.Schedule (GSem nD τ sig) Off 𝕄 where
  duties g r := if r = 0 then (match g.2 with | .reg _ => Finset.univ | .dma _ => {0}) else ∅
  unitless _ := False
  amount g _ _ := match g.2 with | .reg _ => 1 | .dma _ => N
  payload g _ d := payOf X g.1.1 d g.2
  amount_pos g _ _ _ := by
    obtain ⟨t, s⟩ := g
    cases s with
    | reg _ => exact Nat.one_pos
    | dma _ => exact N_pos

instance talkRd_payload_storable (g : GSem nD τ sig) (r : ℕ) (d : Off) :
    BI.Storable (upEmb : UEmb _ 𝕄) ((talkRd X).payload g r d) := by
  show BI.Storable upEmb (payOf X g.1.1 d g.2)
  unfold payOf barPay recvPay sendPay
  (repeat' split) <;> infer_instance

section Sched

variable (c : Dev nD) (i : Off)

theorem duties_bar : (talkRd X).duties (barCell c) 0 = Finset.univ := rfl
theorem duties_send : (talkRd X).duties (sendCell c i) 0 = {0} := rfl
theorem duties_recv : (talkRd X).duties (recvCell c i) 0 = {0} := rfl
theorem duties_later (g : GSem nD τ sig) : ∀ r, 1 ≤ r → (talkRd X).duties g r = ∅ :=
  fun r hr => by dsimp only [talkRd]; rw [if_neg (fun h => by omega)]

theorem expect_bar : (talkRd X).expect (barCell c) 0 = 31 := by
  unfold Schedule.expect Schedule.amountOf; rw [duties_bar]
  exact (Finset.sum_const 1).trans (by simp)
theorem expect_send : (talkRd X).expect (sendCell c i) 0 = N := by
  unfold Schedule.expect Schedule.amountOf; rw [duties_send, Finset.sum_singleton]; rfl
theorem expect_recv : (talkRd X).expect (recvCell c i) 0 = N := by
  unfold Schedule.expect Schedule.amountOf; rw [duties_recv, Finset.sum_singleton]; rfl

theorem payload_bar (d : Off) : (talkRd X).payload (barCell c) 0 d = barPay c d := rfl
theorem payload_send (d : Off) : (talkRd X).payload (sendCell c i) 0 d = sendPay X c i := by
  show (if (sendS i).val < 35 then sendPay X c (offAt 4 (sendS i).val) else recvPay X c (offAt 36 (sendS i).val)) = _
  rw [if_pos (by rw [sendS_val]; omega), offAt_send]
theorem payload_recv (d : Off) : (talkRd X).payload (recvCell c i) 0 d = recvPay X c i := by
  show (if (recvS i).val < 35 then sendPay X c (offAt 4 (recvS i).val) else recvPay X c (offAt 36 (recvS i).val)) = _
  rw [if_neg (by rw [recvS_val]; omega), offAt_recv]

theorem rest_bar : bigSep ((talkRd X).duties (barCell c) 0 \ ∅) (fun d => (talkRd X).payload (barCell c) 0 d) = bigSep Finset.univ (barPay c) := by
  rw [Finset.sdiff_empty, duties_bar]; rfl
theorem rest_send : bigSep ((talkRd X).duties (sendCell c i) 0 \ ∅) (fun d => (talkRd X).payload (sendCell c i) 0 d) = sendPay X c i := by
  rw [Finset.sdiff_empty, duties_send, bigSep_singleton, payload_send]
theorem rest_recv : bigSep ((talkRd X).duties (recvCell c i) 0 \ ∅) (fun d => (talkRd X).payload (recvCell c i) 0 d) = recvPay X c i := by
  rw [Finset.sdiff_empty, duties_recv, bigSep_singleton, payload_recv]

end Sched

/-! ## What each core owes at launch; the levels -/

/-- What a device owes for a list of offsets: the receive credit of each target, -/
def owedR (c : Dev nD) (l : List Off) : CellTallies nD τ sig Unit := (l.map fun i => tallyAt (recvCell (pr c i) i) () N).sum
/-- and a unit of each target's barrier. -/
def owedB (c : Dev nD) (l : List Off) : CellTallies nD τ sig Unit := (l.map fun i => tallyAt (barCell (pr c i)) () 1).sum

theorem owedR_cons (c : Dev nD) (i : Off) (l : List Off) : owedR c (i :: l) = owedR c l + tallyAt (recvCell (pr c i) i) () N :=
  (List.sum_cons).trans (add_comm _ _)
theorem owedB_cons (c : Dev nD) (i : Off) (l : List Off) : owedB c (i :: l) = owedB c l + tallyAt (barCell (pr c i)) () 1 :=
  (List.sum_cons).trans (add_comm _ _)

/-- What a device owes at launch. -/
def O₀ (c : Dev nD) : CellTallies nD τ sig Unit := owedR c offs + owedB c offs

theorem owedR_pos {c : Dev nD} {l : List Off} {g : GSem nD τ sig} {u : Unit} (h : 0 < owedR c l g u) : ∃ i, g = recvCell (pr c i) i := by
  induction l with
  | nil => exact absurd h (Nat.lt_irrefl 0)
  | cons i l ih =>
    unfold owedR at h ih
    rw [List.map_cons, List.sum_cons, Pi.add_apply, Finsupp.add_apply] at h
    rcases Nat.add_pos_iff_pos_or_pos.mp h with h | h
    · rw [tallyAt_apply] at h
      split at h
      · next hg => exact ⟨i, hg.1⟩
      · exact absurd h (Nat.lt_irrefl 0)
    · exact ih h
theorem owedB_pos {c : Dev nD} {l : List Off} {g : GSem nD τ sig} {u : Unit} (h : 0 < owedB c l g u) : ∃ i, g = barCell (pr c i) := by
  induction l with
  | nil => exact absurd h (Nat.lt_irrefl 0)
  | cons i l ih =>
    unfold owedB at h ih
    rw [List.map_cons, List.sum_cons, Pi.add_apply, Finsupp.add_apply] at h
    rcases Nat.add_pos_iff_pos_or_pos.mp h with h | h
    · rw [tallyAt_apply] at h
      split at h
      · next hg => exact ⟨i, hg.1⟩
      · exact absurd h (Nat.lt_irrefl 0)
    · exact ih h

def L (g : GSem nD τ sig) : Finset Unit := if g.1.2 = .tc then {()} else ∅
/-- Barrier cells at 1, receive cells at 2, the rest at 0. -/
def lv (g : GSem nD τ sig) (_ : Unit) : ℕ := match g.2 with | .reg _ => 1 | .dma s => if 35 < s.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c : Dev nD) (i : Off) (u : Unit) : lv (recvCell c i) u = 2 := by
  show (if 35 < (recvS i).val then 2 else 0) = 2
  rw [if_pos (by rw [recvS_val]; omega)]

theorem mayWait_bar (c : Dev nD) (l : List Off) :
    (levAts L lv : sProp 𝕄) ⊢ MayWait (c : Thread nD τ) (.reg barrier0) () (owedR c l) :=
  MayOwe.of_cut (L := L) (lev := lv) 1 (fun p hp => by rw [Finset.mem_singleton.mp hp, L_tc]; exact Finset.mem_singleton_self _)
    (fun g u hg => by obtain ⟨i, rfl⟩ := owedR_pos hg; rw [L_tc]; exact Finset.mem_singleton_self _)
    (fun p hp => by rw [Finset.mem_singleton.mp hp]; exact (lv_bar c ()).le)
    (fun g u hg => by obtain ⟨i, rfl⟩ := owedR_pos hg; rw [lv_recv]; decide)

/-! ## Families over the offsets -/

theorem offs_nodup : offs.Nodup := by decide
theorem offs_mem (i : Off) : i ∈ offs := by revert i; decide
theorem bigSep_offs {M : Type} [URA M] (Φ : Off → sProp M) : bigSep Finset.univ Φ = bigSepL offs Φ :=
  bigSep_univ_eq_bigSepL offs (by decide) offs_nodup Φ

end Cert.Moments

end
-- ==== Proof.Phases.lean ====
/-
The kernel's runs of like operations, each over a list of offsets: the signals, the copies, the waits on the send cells, the waits on the
receive cells; and the contents the store and the copies leave.
-/
module

public import proofs.«01_k».proof.Proof.Proto

@[expose] public section

noncomputable section

namespace Cert.Moments

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (X : Dev nD → Vec F S2x128x64x128 .f32)

/-! ## Contents -/

theorem rowR_emb_zero (k : Fin 32) (z : S1x4x64.Idx) : ((rowR k).emb z : S32x4x64.Idx) 0 = k := by
  apply Fin.ext
  have hz : (z 0).val = 0 := Nat.lt_one_iff.mp (z 0).isLt
  show k.val + 1 * (z 0).val = k.val
  rw [hz]; rfl
theorem inRow_emb (k : Fin 32) (z : S1x4x64.Idx) : inRow ((rowR k).emb z) = z := by
  funext a
  apply Fin.ext
  fin_cases a
  · exact (Nat.lt_one_iff.mp (z 0).isLt).symm
  · show 0 + 1 * (z 1).val = (z 1).val; omega
  · show 0 + 1 * (z 2).val = (z 2).val; omega

/-- The gathered contents at an element of a row. -/
theorem gathered_row (c : Dev nD) (k : Fin 32) (z : S1x4x64.Idx) :
    gathered X c ((rowR k).emb z) = stats X (frm c k) z := by
  show stats X (frm c (((rowR k).emb z : S32x4x64.Idx) 0)) (inRow ((rowR k).emb z)) = _
  rw [rowR_emb_zero, inRow_emb]

/-- The store of a device's own statistics leaves its row 0 as gathered. -/
theorem stored_eq (c : Dev nD) (f : (cc0_scratch0 : Ref sig .tc).ty.Contents (Elt F)) :
    ∀ j ∈ (rowM 0).view.set, (scM.access (rowR 0)).write (Elt F) f (stats X c) Finset.univ j = gathered X c j := by
  intro j hj
  rw [row_set, ← View.set_slice_whole cc0_scratch0 (rowR 0)] at hj
  obtain ⟨z, -, rfl⟩ := Finset.mem_map.mp hj
  refine (View.write_emb_of_mem (v := (View.whole cc0_scratch0).slice (rowR 0)) f (stats X c) (Finset.mem_univ z)).trans ?_
  refine Eq.trans ?_ (gathered_row X c 0 z).symm
  rw [frm_zero]; rfl

/-- A copy of a device's row 0 leaves the target's row as gathered. -/
theorem landed_eq (c : Dev nD) (i : Off) (f : (cc0_scratch0 : Ref sig .tc).ty.Contents (Elt F)) :
    ∀ j ∈ (rowM (offRow i)).view.set,
      (rowM (offRow i)).view.write (Elt F) f ((rowM 0).view.read (Elt F) (gathered X c)) Finset.univ j = gathered X (pr c i) j := by
  intro j hj
  obtain ⟨y, -, rfl⟩ := Finset.mem_map.mp hj
  refine (View.write_emb_of_mem (v := (rowM (offRow i)).view) f _ (Finset.mem_univ y)).trans ?_
  refine Eq.trans ?_ (gathered_row X (pr c i) (offRow i) (Shape.reshapeEquiv squeezes_S1x4x64_S4x64.numel_eq y)).symm
  rw [frm_pr]
  refine Eq.trans ?_ ((gathered_row X c 0 (Shape.reshapeEquiv squeezes_S1x4x64_S4x64.numel_eq y)).trans (by rw [frm_zero]))
  rfl

/-! ## A run of single operations -/

theorem each_op {E : Type → Type} {α : Type} (i : Off) (l : List Off) (w : Off → E PUnit) (K : Prog E α) :
    each (i :: l) (fun i => .op (w i) .ret) K = .op (w i) fun _ => each l (fun i => .op (w i) .ret) K := rfl

/-! ## The records every device holds -/

variable (κ : GSem nD τ sig → ℕ)

/-- The invariants of the barrier cells, each in round 0. -/
def recsB : sProp 𝕄 :=
  bigSep Finset.univ fun p : Dev nD => iprop(cellInv ER (talkRd X) (κ (barCell p)) (barCell p) ∗ reached ER (barCell p) 0)
/-- The invariants of the send and receive cells. -/
def recsD : sProp 𝕄 :=
  bigSep Finset.univ fun q : Dev nD × Off =>
    iprop(cellInv ER (talkRd X) (κ (sendCell q.1 q.2)) (sendCell q.1 q.2) ∗ cellInv ER (talkRd X) (κ (recvCell q.1 q.2)) (recvCell q.1 q.2))
def recs : sProp 𝕄 := iprop(recsB X κ ∗ recsD X κ)

/-- That a device's own send and receive cells are in round 0. -/
def opens (c : Dev nD) : sProp 𝕄 :=
  bigSep Finset.univ fun i : Off => iprop(reached ER (sendCell c i) 0 ∗ reached ER (recvCell c i) 0)

instance recs_persistent : BI.Persistent (recs X κ) := by unfold recs recsB recsD; infer_instance
instance opens_persistent (c : Dev nD) : BI.Persistent (opens (F := F) c) := by unfold opens; infer_instance

theorem recs_bar (p : Dev nD) : recs X κ ⊢ iprop(cellInv ER (talkRd X) (κ (barCell p)) (barCell p) ∗ reached ER (barCell p) 0) := by
  refine (show recs X κ ⊢ recsB X κ from ?_).trans (bigSep_elim (Finset.mem_univ p))
  unfold recs
  iintro ⟨H, -⟩
  iexact H
theorem recs_dma (c : Dev nD) (i : Off) : recs X κ
    ⊢ iprop(cellInv ER (talkRd X) (κ (sendCell c i)) (sendCell c i) ∗ cellInv ER (talkRd X) (κ (recvCell c i)) (recvCell c i)) := by
  refine (show recs X κ ⊢ recsD X κ from ?_).trans (bigSep_elim (Finset.mem_univ (c, i)))
  unfold recs
  iintro ⟨-, H⟩
  iexact H
theorem opens_at (c : Dev nD) (i : Off) : opens (F := F) c ⊢ iprop(reached ER (sendCell c i) 0 ∗ reached ER (recvCell c i) 0) := by
  unfold opens
  exact bigSep_elim (Finset.mem_univ i)

/-! ## The signals -/

/-- What the signal at an offset spends: the token of the duty it pays, and the row it hands over. -/
def sigIn (c : Dev nD) (i : Off) : sProp 𝕄 :=
  iprop(dutyTok ER (barCell (pr c i)) 0 i.rev ∗ ∃ f, rPts c (offRow i.rev) fullShare f)

theorem signals (c : Dev nD) (R : CellTallies nD τ sig Unit) (W : Waits sig Unit) (Q : PUnit → sProp 𝕄) (l : List Off)
    (K : Prog (TpuEff nD τ sig (Elt F) Λ₀ .tc) PUnit) :
    iprop(recs X κ ∗ opens c ∗ owes (c : Thread nD τ) (R + owedB c l) W ∗ bigSepL l (sigIn c))
      ⊢ iprop((owes (c : Thread nD τ) R W -∗ wp frame (wpE (defs₀ (F := F)) 𝒱₀ c none) Set.univ K Q)
        -∗ wp frame (wpE (defs₀ (F := F)) 𝒱₀ c none) Set.univ
            (each l (fun i => .op (.semSignal (Dev.tc (pr c i)) barrier0 1) .ret) K) Q) := by
  induction l with
  | nil =>
    iintro ⟨-, -, HO, -⟩ Hk
    iapply Hk
    iapply (Entails.of_eq (congrArg (fun O => (owes (c : Thread nD τ) O W : sProp 𝕄)) (show R + owedB c [] = R from add_zero R))) $$ HO
  | cons i l ih =>
    rw [bigSepL_cons', each_op]
    iintro ⟨#Hr, #Ho, HO, Hi, Hl⟩ Hk
    unfold sigIn
    icases Hi with ⟨Ht, ⟨%f, Hrow⟩⟩
    ihave Hb := (recs_bar X κ (pr c i)) $$ Hr
    icases Hb with ⟨#HI, #Hrb⟩
    ihave Hw := (opens_at c i.rev) $$ Ho
    icases Hw with ⟨-, #Hrv⟩
    iapply (Rounds.wp_signal 𝒱₀ ER (talkRd X) (c : Thread nD τ) none (dst := (pr c i : Thread nD τ)) (sem := barrier0) (r := 0) (d := i.rev)
        (κ := κ (barCell (pr c i))) (by rw [duties_bar]; exact Finset.mem_univ _) rfl () (R + owedB c l)
        (O₀ := R + owedB c (i :: l)) (by rw [owedB_cons, add_assoc]; rfl)) $$ [HO Ht Hrow]
    · isplitr; · iexact HI
      isplitl [HO]; · iexact HO
      isplitl [Ht]; · iexact Ht
      isplitl [Hrow]
      · rw [payload_bar]; unfold barPay; rw [pr_rev]
        isplitl [Hrow]; · iexists f; iexact Hrow
        iexact Hrv
      · iexact Hrb
    iintro HO
    iapply ih $$ [HO Hl]
    · isplitr; · iexact Hr
      isplitr; · iexact Ho
      isplitl [HO]; · iexact HO
      unfold sigIn
      iexact Hl
    iexact Hk

/-! ## The copies -/

/-- What the copy at an offset spends: a share of row 0, the target's row and the record of its receive cell, both duties' tokens. -/
def sendIn (c : Dev nD) (i : Off) : sProp 𝕄 :=
  iprop(sendPay X c i ∗ barPay c i ∗ dutyTok ER (sendCell c i) 0 0 ∗ dutyTok ER (recvCell (pr c i) i) 0 0)

theorem copies (c : Dev nD) (W : Waits sig Unit) (Q : PUnit → sProp 𝕄) (l : List Off) (K : Prog (TpuEff nD τ sig (Elt F) Λ₀ .tc) PUnit) :
    iprop(recs X κ ∗ opens c ∗ owes (c : Thread nD τ) (owedR c l) W ∗ bigSepL l (sendIn X c))
      ⊢ iprop(((owes (c : Thread nD τ) 0 W ∗ bigSepL l fun i => cred (tallyAt (sendCell c i) () N))
          -∗ wp frame (wpE (defs₀ (F := F)) 𝒱₀ c none) Set.univ K Q)
        -∗ wp frame (wpE (defs₀ (F := F)) 𝒱₀ c none) Set.univ
            (each l (fun i => .op (.enqueueDma (rowM 0) (.remote (Dev.tc (pr c i)) (rowM (offRow i)) (.dma (sendS i))) (.dma (recvS i))
              ((View.wordExact_bits rfl).reshape _ _) ((View.wordExact_bits rfl).reshape _ _) ⟨⟨rfl, Or.inl rfl⟩, trivial⟩) .ret) K) Q) := by
  induction l generalizing Q K with
  | nil =>
    iintro ⟨-, -, HO, -⟩ Hk
    iapply Hk
    isplitl [HO]; · iexact HO
    rw [bigSepL_nil]; iempintro
  | cons i l ih =>
    rw [bigSepL_cons', bigSepL_cons', each_op]
    iintro ⟨#Hr, #Ho, HO, Hi, Hl⟩ Hk
    unfold sendIn sendPay barPay
    icases Hi with ⟨Hrow, ⟨⟨%fd, Hdst⟩, #Hrv⟩, Hts, Htr⟩
    ihave Hb := (recs_dma X κ c i) $$ Hr
    icases Hb with ⟨#HIs, -⟩
    ihave Hb := (recs_dma X κ (pr c i) i) $$ Hr
    icases Hb with ⟨-, #HIr⟩
    ihave Hw := (opens_at c i) $$ Ho
    icases Hw with ⟨#Hrs, -⟩
    iapply (Rounds.wp_send_pointsTo 𝒱₀ ER (talkRd X) (c : Thread nD τ) none (c' := (pr c i : Thread nD τ)) (src := rowM 0) (dst := rowM (offRow i))
        (sS := .dma (sendS i)) (sem := .dma (recvS i)) (q := shr i) (fs := gathered X c) (κ₁ := κ (sendCell c i)) (κ₂ := κ (recvCell (pr c i) i))
        (r₁ := 0) (r₂ := 0) (d₁ := 0) (d₂ := 0) (fd := fd)
        (by rw [duties_send]; exact Finset.mem_singleton_self _) (by rw [duties_recv]; exact Finset.mem_singleton_self _)
        () () N rfl rfl rfl (owedR c l) (O₀ := owedR c (i :: l)) (owedR_cons c i l) (W := W)
        (by rw [payload_send]; exact BI.Entails.refl _)
        (by rw [payload_recv]; unfold recvPay; exact Entails.of_eq (pointsTo_congr (landed_eq X c i fd)))) $$ [Hrow Hdst HO Hts Htr]
    · isplitr; · iexact HIs
      isplitr; · iexact HIr
      isplitl [Hrow]; · iexact Hrow
      isplitl [Hdst]; · iexact Hdst
      isplitl [HO]; · iexact HO
      isplitl [Hts]; · iexact Hts
      isplitr; · iexact Hrs
      isplitl [Htr]; · iexact Htr
      iexact Hrv
    iintro ⟨Hc, HO⟩
    iapply ih $$ [HO Hl]
    · isplitr; · iexact Hr
      isplitr; · iexact Ho
      isplitl [HO]; · iexact HO
      unfold sendIn sendPay barPay
      iexact Hl
    iintro ⟨HO, Hcs⟩
    iapply Hk
    isplitl [HO]; · iexact HO
    isplitl [Hc] <;> iassumption

/-! ## The waits, each cell closed as its wait returns -/

theorem close (g : GSem nD τ sig) :
    iprop(cellInv ER (talkRd X) (κ g) g ∗ atPos ER g (0 + 1) ∅ 0) ⊢ (|={Set.univ}=> semVal g 0 : sProp 𝕄) :=
  Rounds.cell_close ER (talkRd X) (Set.mem_univ (κ g)) id (duties_later X g)

theorem sendWaits (c : Dev nD) (W : Waits sig Unit) (Q : PUnit → sProp 𝕄) (l : List Off) (K : Prog (TpuEff nD τ sig (Elt F) Λ₀ .tc) PUnit) :
    iprop(recs X κ ∗ owes (c : Thread nD τ) 0 W
        ∗ (bigSepL l fun i => cred (tallyAt (sendCell c i) () N)) ∗ bigSepL l fun i => atPos ER (sendCell c i) 0 ∅ 0)
      ⊢ iprop((((∃ W, owes (c : Thread nD τ) 0 W) ∗ (bigSepL l fun i => semVal (sendCell c i) 0) ∗ bigSepL l (sendPay X c))
          -∗ wp frame (wpE (defs₀ (F := F)) 𝒱₀ c none) Set.univ K Q)
        -∗ wp frame (wpE (defs₀ (F := F)) 𝒱₀ c none) Set.univ
            (each l (fun i => .op (.waitDma2 (sendS i) (rowM (offRow i)) (rowM 0)
              ((View.wordExact_bits rfl).reshape _ _) ((View.wordExact_bits rfl).reshape _ _)) .ret) K) Q) := by
  induction l generalizing W Q K with
  | nil =>
    iintro ⟨-, HO, -, -⟩ Hk
    iapply Hk
    isplitl [HO]; · iexists W; iexact HO
    rw [bigSepL_nil, bigSepL_nil]
    isplitr <;> iempintro
  | cons i l ih =>
    rw [bigSepL_cons', bigSepL_cons', bigSepL_cons', bigSepL_cons', each_op]
    iintro ⟨#Hr, HO, ⟨Hc, Hcl⟩, ⟨Hat, Hatl⟩⟩ Hk
    ihave Hb := (recs_dma X κ c i) $$ Hr
    icases Hb with ⟨#HI, -⟩
    iapply (Rounds.wp_wait_rest_token 𝒱₀ ER (talkRd X) (c : Thread nD τ) none (κ := κ (sendCell c i))
        (wpE_waitDma2_eq 𝒱₀ (c : Thread nD τ) none Set.univ) (Set.mem_univ _) () (O := 0) (W := W) (R := 0) (m := 0) (T := ∅)
        ((Nat.zero_add _).trans (expect_send X c i).symm)) $$ [Hc HO Hat]
    · isplitr; · iexact HI
      isplitl [Hc]; · iexact Hc
      isplitl [HO]; · iexact HO
      isplitr; · rw [MayWait_zero]; iempintro
      iexact Hat
    iintro ⟨HO, Hat, -, Hpay⟩
    ihave Hp := (Entails.of_eq (rest_send X c i)) $$ Hpay
    imod (close X κ (sendCell c i)) $$ [Hat] with Hz
    · isplitr; · iexact HI
      iexact Hat
    iapply ih $$ [HO Hcl Hatl]
    · isplitr; · iexact Hr
      isplitl [HO]; · iexact HO
      isplitl [Hcl] <;> iassumption
    iintro ⟨HO, Hzl, Hpl⟩
    iapply Hk
    isplitl [HO]; · iexact HO
    isplitl [Hz Hzl]
    · isplitl [Hz] <;> iassumption
    isplitl [Hp] <;> iassumption

theorem recvWaits (c : Dev nD) (W : Waits sig Unit) (Q : PUnit → sProp 𝕄) (l : List Off) (K : Prog (TpuEff nD τ sig (Elt F) Λ₀ .tc) PUnit) :
    iprop(recs X κ ∗ owes (c : Thread nD τ) 0 W
        ∗ (bigSepL l fun i => cred (tallyAt (recvCell c i) () N)) ∗ bigSepL l fun i => atPos ER (recvCell c i) 0 ∅ 0)
      ⊢ iprop((((∃ W, owes (c : Thread nD τ) 0 W) ∗ (bigSepL l fun i => semVal (recvCell c i) 0) ∗ bigSepL l (recvPay X c))
          -∗ wp frame (wpE (defs₀ (F := F)) 𝒱₀ c none) Set.univ K Q)
        -∗ wp frame (wpE (defs₀ (F := F)) 𝒱₀ c none) Set.univ
            (each l (fun i => .op (.waitDma2 (recvS i) (rowM 0) (rowM (offRow i))
              ((View.wordExact_bits rfl).reshape _ _) ((View.wordExact_bits rfl).reshape _ _)) .ret) K) Q) := by
  induction l generalizing W Q K with
  | nil =>
    iintro ⟨-, HO, -, -⟩ Hk
    iapply Hk
    isplitl [HO]; · iexists W; iexact HO
    rw [bigSepL_nil, bigSepL_nil]
    isplitr <;> iempintro
  | cons i l ih =>
    rw [bigSepL_cons', bigSepL_cons', bigSepL_cons', bigSepL_cons', each_op]
    iintro ⟨#Hr, HO, ⟨Hc, Hcl⟩, ⟨Hat, Hatl⟩⟩ Hk
    ihave Hb := (recs_dma X κ c i) $$ Hr
    icases Hb with ⟨-, #HI⟩
    iapply (Rounds.wp_wait_rest_token 𝒱₀ ER (talkRd X) (c : Thread nD τ) none (κ := κ (recvCell c i))
        (wpE_waitDma2_eq (src := rowM 0) (dst := rowM (offRow i)) 𝒱₀ (c : Thread nD τ) none Set.univ) (Set.mem_univ _) () (O := 0) (W := W) (R := 0) (m := 0) (T := ∅)
        ((Nat.zero_add _).trans (expect_recv X c i).symm)) $$ [Hc HO Hat]
    · isplitr; · iexact HI
      isplitl [Hc]; · iexact Hc
      isplitl [HO]; · iexact HO
      isplitr; · rw [MayWait_zero]; iempintro
      iexact Hat
    iintro ⟨HO, Hat, -, Hpay⟩
    ihave Hp := (Entails.of_eq (rest_recv X c i)) $$ Hpay
    imod (close X κ (recvCell c i)) $$ [Hat] with Hz
    · isplitr; · iexact HI
      iexact Hat
    iapply ih $$ [HO Hcl Hatl]
    · isplitr; · iexact Hr
      isplitl [HO]; · iexact HO
      isplitl [Hcl] <;> iassumption
    iintro ⟨HO, Hzl, Hpl⟩
    iapply Hk
    isplitl [HO]; · iexact HO
    isplitl [Hz Hzl]
    · isplitl [Hz] <;> iassumption
    isplitl [Hp] <;> iassumption

end Cert.Moments

end
-- ==== Proof.Body.lean ====
/-
One run of the kernel's body on a symbolic device `c`: the signals, the store of the own statistics, the barrier wait, the 31 copies, the
waits, and the result from what was gathered.
-/
module

public import proofs.«01_k».proof.Proof.Phases

@[expose] public section

noncomputable section

namespace Cert.Moments

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2x128x64x128 .f32)

abbrev xM : Memref sig .tc .vmem S2x128x64x128 .f32 := Memref.whole cc0_stg0_0
abbrev wM : Memref sig .tc .vmem S64x128 .f32 := Memref.whole cc0_stg1_0
abbrev oM : Memref sig .tc .vmem S2x128x128x128 .bf16 := Memref.whole cc0_stg2_0

/-- The scratch buffer whole, at contents `f`. -/
abbrev scPts (c : Dev nD) (f : Buf (Elt F) (scM.view.loc (c : Thread nD τ))) : sProp 𝕄 :=
  scM.view.loc (c : Thread nD τ) ↦[Finset.univ]{fullShare} f

/-! ## The scratch buffer and its rows -/

theorem bigSep_rows (Φ : Fin 32 → sProp 𝕄) :
    bigSep Finset.univ Φ = iprop(Φ 0 ∗ bigSep Finset.univ fun i : Off => Φ (offRow i)) := by
  rw [Fin.univ_succ, Finset.cons_eq_insert, bigSep_insert (by simp), bigSep_map]; rfl

/-- The scratch buffer is its row 0 and the rows the copies land in. -/
theorem scratch_rows (c : Dev nD) (f : Buf (Elt F) (scM.view.loc (c : Thread nD τ))) :
    scPts c f = iprop(rPts c 0 fullShare f ∗ bigSep Finset.univ fun i : Off => rPts c (offRow i) fullShare f) := by
  rw [← bigSep_rows (fun k => rPts c k fullShare f)]
  have hs : (Finset.univ : Finset (Idx (scM.view.loc (c : Thread nD τ)))) = Finset.univ.biUnion fun k : Fin 32 => (rowM k).view.set := by
    refine rows_cover.symm.trans ?_
    exact congrArg (fun g : Fin 32 → Finset S32x4x64.Idx => Finset.univ.biUnion g) (funext fun k => (row_set k).symm)
  show (scM.view.loc (c : Thread nD τ) ↦[Finset.univ]{fullShare} f) = _
  rw [hs]
  exact pointsTo_biUnion (ℓ := scM.view.loc (c : Thread nD τ)) Finset.univ (fun k : Fin 32 => (rowM k).view.set)
    (fun k _ k' _ h => by rw [row_set, row_set]; exact rows_disjoint k k' h)

/-- The rows a device hands over with its signals, in the signals' order. -/
theorem rows_out (c : Dev nD) (f : Buf (Elt F) (scM.view.loc (c : Thread nD τ))) :
    (bigSep Finset.univ fun i : Off => rPts c (offRow i) fullShare f)
      ⊢ bigSepL offs fun i : Off => iprop(∃ g, rPts (F := F) c (offRow i.rev) fullShare g) := by
  rw [bigSep_univ_equiv Fin.revPerm (fun i : Off => rPts c (offRow i) fullShare f), bigSep_offs]
  refine bigSepL_mono fun i _ => ?_
  iintro H
  iexists f
  iexact H

/-! ## The loads and the store of whole buffers -/

theorem read_x (f : (cc0_stg0_0 : Ref sig .tc).ty.Contents (Elt F)) : xM.view.readAt (Elt F) (Rect.unit (s := S2x128x64x128) ![0, 0, 0, 0] S2x128x64x128.size
    inb_S2x128x64x128_S2x128x64x128_0_0_0_0).toLoadRect f = f :=
  Memref.readAt_unit_zero (Elt F) cc0_stg0_0 (by decide) _ f
theorem read_w (f : (cc0_stg1_0 : Ref sig .tc).ty.Contents (Elt F)) : wM.view.readAt (Elt F) (Rect.unit (s := S64x128) ![0, 0] S64x128.size
    inb_S64x128_S64x128_0_0).toLoadRect f = f :=
  Memref.readAt_unit_zero (Elt F) cc0_stg1_0 (by decide) _ f
theorem read_g (f : (cc0_scratch0 : Ref sig .tc).ty.Contents (Elt F)) : scM.view.readAt (Elt F) (Rect.unit (s := S32x4x64) ![0, 0, 0] S32x4x64.size
    inb_S32x4x64_S32x4x64_0_0_0).toLoadRect f = f :=
  Memref.readAt_unit_zero (Elt F) cc0_scratch0 (by decide) _ f
theorem write_o (f w : (cc0_stg2_0 : Ref sig .tc).ty.Contents (Elt F)) :
    (oM.access (Rect.unit (s := S2x128x128x128) ![0, 0, 0, 0] S2x128x128x128.size inb_S2x128x128x128_S2x128x128x128_0_0_0_0)).write (Elt F) f w Finset.univ = w :=
  Memref.write_access_unit_zero_univ (Elt F) cc0_stg2_0 (by decide) _ f w

/-! ## The run -/

/-- A device's block of the result. -/
def result (c : Dev nD) (w : Vec F S64x128 .f32) : Vec F S2x128x128x128 .bf16 :=
  k0_pay7 (k0_pay1 (X c)) (k0_pay5 (gathered X c)) (k0_pay6 (gathered X c)) w

variable (κ : GSem nD τ sig → ℕ)

/-- What the body starts from. -/
def runPre (c : Dev nD) (w : Vec F S64x128 .f32) (W : Waits sig Unit) : sProp 𝕄 :=
  iprop(recs X κ ∗ opens c ∗ levAts L lv
    ∗ atPos ER (barCell c) 0 ∅ 0
    ∗ (bigSepL offs fun i => atPos ER (sendCell c i) 0 ∅ 0) ∗ (bigSepL offs fun i => atPos ER (recvCell c i) 0 ∅ 0)
    ∗ (bigSepL offs fun i => dutyTok ER (barCell (pr c i)) 0 i.rev)
    ∗ (bigSepL offs fun i => dutyTok ER (sendCell c i) 0 0) ∗ (bigSepL offs fun i => dutyTok ER (recvCell (pr c i) i) 0 0)
    ∗ cred (tallyAt (barCell c) () 31) ∗ (bigSepL offs fun i => cred (tallyAt (recvCell c i) () N))
    ∗ (∃ f, scPts c f)
    ∗ (xM.view.loc (c : Thread nD τ) ↦[Finset.univ]{fullShare} X c) ∗ (wM.view.loc (c : Thread nD τ) ↦[Finset.univ]{fullShare} w)
    ∗ (∃ f, oM.view.loc (c : Thread nD τ) ↦[Finset.univ]{fullShare} f)
    ∗ owes (c : Thread nD τ) (O₀ c) W)

/-- What it leaves: every counter at zero, nothing owed, the result in its staging buffer. -/
def runPost (c : Dev nD) (w : Vec F S64x128 .f32) : sProp 𝕄 :=
  iprop(semVal (barCell c) 0 ∗ (bigSepL offs fun i => semVal (sendCell c i) 0) ∗ (bigSepL offs fun i => semVal (recvCell c i) 0)
    ∗ (∃ f, scPts (F := F) c f)
    ∗ (xM.view.loc (c : Thread nD τ) ↦[Finset.univ]{fullShare} X c) ∗ (wM.view.loc (c : Thread nD τ) ↦[Finset.univ]{fullShare} w)
    ∗ (oM.view.loc (c : Thread nD τ) ↦[Finset.univ]{fullShare} result X c w)
    ∗ ∃ W, owes (c : Thread nD τ) (0 : CellTallies nD τ sig Unit) W)

theorem sigIn_of (c : Dev nD) :
    iprop((bigSepL offs fun i => dutyTok ER (barCell (pr c i)) 0 i.rev) ∗ bigSepL offs fun i : Off => iprop(∃ g, rPts (F := F) c (offRow i.rev) fullShare g))
      ⊢ bigSepL offs (sigIn c) := by
  rw [← bigSep_offs, ← bigSep_offs, ← bigSep_offs, ← bigSep_sep']
  exact Entails.refl _

theorem sendIn_of (c : Dev nD) :
    iprop((bigSep Finset.univ (sendPay X c)) ∗ (bigSep Finset.univ (barPay (F := F) c))
        ∗ (bigSepL offs fun i => dutyTok ER (sendCell c i) 0 0) ∗ bigSepL offs fun i => dutyTok ER (recvCell (pr c i) i) 0 0)
      ⊢ bigSepL offs (sendIn X c) := by
  rw [← bigSep_offs, ← bigSep_offs, ← bigSep_offs, ← bigSep_sep', ← bigSep_sep', ← bigSep_sep']
  exact Entails.refl _

set_option maxHeartbeats 1600000 in
theorem run (c : Dev nD) (w : Vec F S64x128 .f32) (W : Waits sig Unit) (Q : PUnit → sProp 𝕄) :
    iprop(runPre X κ c w W ∗ (runPost X c w -∗ Q ⟨⟩))
      ⊢ wp frame (wpE (defs₀ (F := F)) 𝒱₀ c none) Set.univ
          (bodyOf (F := F) (fun i c => pr c i) (fun i c => pr c i) xM wM oM (Memref.isWhole_whole _)) Q := by
  unfold bodyOf runPre
  rw [wp_deviceId]
  iintro ⟨⟨#Hr, #Ho, #Hlev, HatB, HatS, HatV, HtB, HtS, HtV, HcB, HcV, ⟨%f0, Hsc⟩, Hx, Hw, ⟨%fo, Hout⟩, HO⟩, Hk⟩
  ihave Hsc := (Entails.of_eq (scratch_rows c f0)) $$ Hsc
  icases Hsc with ⟨Hrow, Hrows⟩
  ihave Hrows := (rows_out c f0) $$ Hrows
  -- the signals: every other row goes out
  iapply (signals X κ c (owedR c offs) W _ offs _) $$ [HO HtB Hrows]
  · isplitr; · iexact Hr
    isplitr; · iexact Ho
    isplitl [HO]; · unfold O₀; iexact HO
    iapply (sigIn_of c)
    isplitl [HtB] <;> iassumption
  iintro HO
  -- the own statistics into row 0
  iapply (wp_load 𝒱₀ (c : Thread nD τ) none Set.univ (m := xM) (Finset.subset_univ _)) $$ Hx; iintro Hx
  rw [read_x]
  iapply (wp_load_rect 𝒱₀ (c : Thread nD τ) none Set.univ (m := scM) (r := rowR 0) (S := (rowM 0).view.set)
    (by rw [row_set]; exact (View.set_slice_whole _ _).le)) $$ Hrow; iintro Hrow
  iapply (wp_store 𝒱₀ (c : Thread nD τ) none Set.univ (m := scM) (r := rowR 0) (Mk := Finset.univ) (S := (rowM 0).view.set)
    (by rw [row_set]; exact (View.set_slice_whole _ _).le)) $$ Hrow; iintro Hrow
  ihave Hrow := (Entails.of_eq (pointsTo_congr (stored_eq X c f0))) $$ Hrow
  -- the wait for all 31 others
  ihave Hb := (recs_bar X κ c) $$ Hr
  icases Hb with ⟨#HIb, -⟩
  iapply (Rounds.wp_wait_rest_token 𝒱₀ ER (talkRd X) (c : Thread nD τ) none (κ := κ (barCell c))
      (wpE_semWait_eq 𝒱₀ (c : Thread nD τ) none Set.univ) (Set.mem_univ _) () (O := owedR c offs) (W := W) (R := 0) (m := 0) (T := ∅)
      ((Nat.zero_add 31).trans (expect_bar X c).symm)) $$ [HcB HO HatB]
  · isplitr; · iexact HIb
    isplitl [HcB]; · iexact HcB
    isplitl [HO]; · iexact HO
    isplitr; · iapply (mayWait_bar c offs); iexact Hlev
    iexact HatB
  iintro ⟨HO, HatB, -, Hpay⟩
  ihave Hp := (Entails.of_eq (rest_bar X c)) $$ Hpay
  imod (close X κ (barCell c)) $$ [HatB] with HzB
  · isplitr; · iexact HIb
    iexact HatB
  -- the copies, each reading a share of row 0
  ihave Hrow := (Transfers.pointsTo_toks_split (n := 31)) $$ Hrow
  icases Hrow with ⟨Hrow, Htok⟩
  iapply (copies X κ c _ _ offs _) $$ [HO Hp Htok HtS HtV]
  · isplitr; · iexact Hr
    isplitr; · iexact Ho
    isplitl [HO]; · iexact HO
    iapply (sendIn_of X c)
    isplitl [Htok]; · unfold sendPay; iexact Htok
    isplitl [Hp]; · iexact Hp
    isplitl [HtS] <;> iassumption
  iintro ⟨HO, HcS⟩
  -- the waits
  iapply (sendWaits X κ c _ _ offs _) $$ [HO HcS HatS]
  · isplitr; · iexact Hr
    isplitl [HO]; · iexact HO
    isplitl [HcS] <;> iassumption
  iintro ⟨⟨%W1, HO⟩, HzS, Htok⟩
  iapply (recvWaits X κ c _ _ offs _) $$ [HO HcV HatV]
  · isplitr; · iexact Hr
    isplitl [HO]; · iexact HO
    isplitl [HcV] <;> iassumption
  iintro ⟨⟨%W2, HO⟩, HzV, Hrows⟩
  -- the scratch buffer whole again, at what was gathered
  ihave Htok := (Entails.of_eq (bigSep_offs (sendPay X c)).symm) $$ Htok
  ihave Hrows := (Entails.of_eq (bigSep_offs (recvPay X c)).symm) $$ Hrows
  unfold sendPay recvPay
  ihave Hrow := (Transfers.pointsTo_toks_join (n := 31)) $$ [Hrow Htok]
  · isplitl [Hrow] <;> iassumption
  ihave Hsc := (Entails.of_eq (scratch_rows c (gathered X c)).symm) $$ [Hrow Hrows]
  · isplitl [Hrow] <;> iassumption
  iapply (wp_load 𝒱₀ (c : Thread nD τ) none Set.univ (m := scM) (Finset.subset_univ _)) $$ Hsc; iintro Hsc
  rw [read_g]
  iapply (wp_load 𝒱₀ (c : Thread nD τ) none Set.univ (m := wM) (Finset.subset_univ _)) $$ Hw; iintro Hw
  rw [read_w]
  iapply (wp_load 𝒱₀ (c : Thread nD τ) none Set.univ (m := oM) (Finset.subset_univ _)) $$ Hout; iintro Hout
  iapply (wp_store 𝒱₀ (c : Thread nD τ) none Set.univ (m := oM)
    (r := Rect.unit (s := S2x128x128x128) ![0, 0, 0, 0] S2x128x128x128.size inb_S2x128x128x128_S2x128x128x128_0_0_0_0) (Mk := Finset.univ) (Finset.subset_univ _)) $$ Hout; iintro Hout
  rw [write_o, wp_ret]
  imodintro
  iapply Hk
  unfold runPost result
  isplitl [HzB]; · iexact HzB
  isplitl [HzS]; · iexact HzS
  isplitl [HzV]; · iexact HzV
  isplitl [Hsc]; · iexists _; iexact Hsc
  isplitl [Hx]; · iexact Hx
  isplitl [Hw]; · iexact Hw
  isplitl [Hout]; · iexact Hout
  iexists W2; iexact HO

end Cert.Moments

end
-- ==== Proof.Ghost.lean ====
/-
  What the launch deals. Every cell's invariant is allocated before the devices start: the barrier cells from their counters, the send and
  receive cells dormant, opened by their owner when it enters the kernel. Every duty's token then goes to the device
  that pays it: of each offset, the barrier and the receive token of a device go to the device the offset before it,
  its send token stays. The launch credit of a device is what the others owe its cells: 31 signals on its barrier,
  one copy on each of its receive cells.
-/
module

public import proofs.«01_k».proof.Proof.Body

@[expose] public section

noncomputable section

namespace Cert.Moments

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells -/

/-- The kernel's own semaphores: an offset's send semaphore and its receive semaphore. -/
def osem (k : Fin 2 × Off) : SemLoc sig := .dma (if k.1 = 0 then sendS k.2 else recvS k.2)

theorem osem_inj : Function.Injective osem := by
  rintro ⟨a, i⟩ ⟨b, j⟩ h
  unfold osem at h
  have h := congrArg Fin.val (SemLoc.dma.inj h)
  have hi := i.isLt
  have hj := j.isLt
  revert h
  fin_cases a <;> fin_cases b <;> simp [sendS_val, recvS_val] <;> intro h
  · exact Fin.ext h
  · omega
  · omega
  · exact Fin.ext h

theorem stage_sem_lt : ∀ (w : Fin 3) (s : Fin (spec0 w).nbuf), ((spec0 w).sem s).val < 4 := by decide +kernel

theorem reg_ne_dma (a : Idealize.ShloMosaic.Sem sig) (b : DmaSem sig) : SemLoc.reg a ≠ SemLoc.dma b := nofun

theorem ownFacts : Pipeline.OwnSemFacts spec0 osem where
  isScoped k := by revert k; decide +kernel
  inj := osem_inj
  disj k w s := by
    unfold osem
    intro h
    have h := congrArg Fin.val (SemLoc.dma.inj h)
    have hw : ((spec0 w).sem s).val < 4 := stage_sem_lt w s
    obtain ⟨a, i⟩ := k
    revert h
    dsimp only
    split <;> simp [sendS_val, recvS_val] <;> omega

def barEmb : Dev nD ↪ GSem nD τ sig := ⟨barCell, fun _ _ h => congrArg (fun g : GSem nD τ sig => g.1.1) h⟩
def dmaEmb : Dev nD × (Fin 2 × Off) ↪ GSem nD τ sig :=
  ⟨fun q => ((q.1 : Thread nD τ), osem q.2), fun _ _ h =>
    Prod.ext (congrArg (fun g : GSem nD τ sig => g.1.1) h) (osem_inj (congrArg Prod.snd h))⟩
abbrev barCells : Finset (GSem nD τ sig) := Finset.univ.map barEmb
abbrev dmaCells : Finset (GSem nD τ sig) := Finset.univ.map dmaEmb

theorem cells_disjoint : Disjoint (barCells : Finset (GSem nD τ sig)) dmaCells := by
  rw [Finset.disjoint_left]
  rintro g h₁ h₂
  obtain ⟨c, -, rfl⟩ := Finset.mem_map.mp h₁
  obtain ⟨q, -, h⟩ := Finset.mem_map.mp h₂
  exact reg_ne_dma barrier0 _ (congrArg (fun g : GSem nD τ sig => g.2) h).symm

/-- A device's duties: its barrier's, one per offset, and one of each send and receive cell. -/
def tokAt (c : Dev nD) : Off ⊕ (Fin 2 × Off) → GSem nD τ sig × ℕ × Off
  | .inl d => (barCell c, 0, d)
  | .inr k => (((c : Thread nD τ), osem k), 0, 0)
theorem tokAt_inj : Function.Injective fun q : Dev nD × (Off ⊕ (Fin 2 × Off)) => tokAt q.1 q.2 := by
  rintro ⟨c, a⟩ ⟨c', b⟩ h
  have hc : c = c' := by
    have := congrArg (fun t : GSem nD τ sig × ℕ × Off => t.1.1.1) h
    revert this; cases a <;> cases b <;> exact id
  have hs := congrArg (fun t : GSem nD τ sig × ℕ × Off => t.1.2) h
  have hd := congrArg (fun t : GSem nD τ sig × ℕ × Off => t.2.2) h
  subst hc
  cases a <;> cases b
  · exact congrArg (fun d => (c, Sum.inl d)) hd
  · exact absurd hs (reg_ne_dma _ _)
  · exact absurd hs.symm (reg_ne_dma _ _)
  · exact congrArg (fun k => (c, Sum.inr k)) (osem_inj hs)
def toks : Finset (GSem nD τ sig × ℕ × Off) := Finset.univ.map ⟨_, tokAt_inj⟩

/-! ## The tokens, each to the device that pays its duty -/

/-- A family over devices and offsets, re-dealt: of each offset, a device gets the member of the device that far
    after it. -/
theorem around (σ : Off ≃ Off) (Φ : Dev nD → Off → sProp 𝕄) :
    (bigSep Finset.univ fun c => bigSep Finset.univ (Φ c)) = bigSep Finset.univ fun c => bigSep Finset.univ fun i => Φ (pr c i) (σ i) := by
  rw [bigSep_univ_comm, bigSep_univ_comm (fun c i => Φ (pr c i) (σ i)), bigSep_univ_equiv σ]
  exact bigSep_congr fun i _ => bigSep_univ_equiv (prEquiv i) (fun c => Φ c (σ i))

/-- The tokens a device pays with. -/
def payToks (c : Dev nD) : sProp 𝕄 :=
  iprop((bigSepL offs fun i => dutyTok ER (barCell (pr c i)) 0 i.rev)
    ∗ (bigSepL offs fun i => dutyTok ER (sendCell c i) 0 0) ∗ (bigSepL offs fun i => dutyTok ER (recvCell (pr c i) i) 0 0))

theorem bigSep_kinds (Φ : Fin 2 × Off → sProp 𝕄) :
    bigSep Finset.univ Φ = iprop((bigSepL offs fun i => Φ (0, i)) ∗ (bigSepL offs fun i => Φ (1, i))) := by
  rw [bigSep_univ_prod, BI.bigSep_fin_two, bigSep_offs, bigSep_offs]
  rfl
theorem bigSep_duties (Φ : Off ⊕ (Fin 2 × Off) → sProp 𝕄) :
    bigSep Finset.univ Φ
      = iprop((bigSep Finset.univ fun i => Φ (.inl i)) ∗ (bigSepL offs fun i => Φ (.inr (0, i))) ∗ (bigSepL offs fun i => Φ (.inr (1, i)))) := by
  rw [bigSep_univ_sum, bigSep_kinds]
  rfl

theorem toks_dealt : bigSep toks (fun x => (dutyTok ER x.1 x.2.1 x.2.2 : sProp 𝕄)) ⊢ bigSep Finset.univ fun c : Dev nD => payToks c := by
  unfold toks payToks
  rw [bigSep_map, bigSep_univ_prod]
  simp only [bigSep_duties, bigSep_sep']
  simp only [← bigSep_offs]
  refine Entails.of_eq ?_
  rw [show (bigSep Finset.univ fun c : Dev nD => bigSep Finset.univ fun i : Off => (dutyTok ER (barCell (pr c i)) 0 i.rev : sProp 𝕄))
      = bigSep Finset.univ fun c : Dev nD => bigSep Finset.univ fun i : Off => dutyTok ER (barCell c) 0 i
    from (around Fin.revPerm fun c i => dutyTok ER (barCell c) 0 i).symm,
    show (bigSep Finset.univ fun c : Dev nD => bigSep Finset.univ fun i : Off => (dutyTok ER (recvCell (pr c i) i) 0 0 : sProp 𝕄))
      = bigSep Finset.univ fun c : Dev nD => bigSep Finset.univ fun i : Off => dutyTok ER (recvCell c i) 0 0
    from (around (Equiv.refl Off) fun c i => dutyTok ER (recvCell c i) 0 0).symm]
  rfl

/-! ## The invariants -/

variable (X : Dev nD → Vec F S2x128x64x128 .f32)

/-- The invariants as the launch allocates them, regrouped by device. -/
theorem recs_intro (κ : GSem nD τ sig → ℕ) :
    iprop((bigSep (barCells ∪ dmaCells) fun g => cellInv ER (talkRd X) (κ g) g) ∗ bigSep barCells fun g => reached ER g 0) ⊢ recs X κ := by
  have hB : (bigSep barCells fun g => (cellInv ER (talkRd X) (κ g) g : sProp 𝕄))
      = bigSep Finset.univ fun c => cellInv ER (talkRd X) (κ (barCell c)) (barCell c) := bigSep_map barEmb
  have hR : (bigSep barCells fun g => (reached ER g 0 : sProp 𝕄)) = bigSep Finset.univ fun c => reached ER (barCell c) 0 := bigSep_map barEmb
  have hD : (bigSep dmaCells fun g => (cellInv ER (talkRd X) (κ g) g : sProp 𝕄)) = recsD X κ := by
    unfold recsD
    rw [bigSep_map, bigSep_univ_prod, bigSep_univ_prod]
    exact bigSep_congr fun c _ => by
      rw [bigSep_kinds, ← bigSep_offs, ← bigSep_offs, ← bigSep_sep']
      rfl
  rw [show (bigSep (barCells ∪ dmaCells) fun g => (cellInv ER (talkRd X) (κ g) g : sProp 𝕄))
      = iprop((bigSep barCells fun g => cellInv ER (talkRd X) (κ g) g) ∗ bigSep dmaCells fun g => cellInv ER (talkRd X) (κ g) g)
    from bigSep_union cells_disjoint, hB, hR, hD]
  unfold recs recsB
  rw [bigSep_sep']
  iintro ⟨⟨HB, HD⟩, HR⟩
  isplitl [HB HR]
  · isplitl [HB]
    · iexact HB
    · iexact HR
  · iexact HD

/-! ## A device's ghost state, before and after it opens its cells -/

/-- What of the launch's ghost state a device keeps for itself. -/
def own₀ (c : Dev nD) : sProp 𝕄 :=
  iprop(atPos ER (barCell c) 0 ∅ 0 ∗ (bigSep Finset.univ fun k : Fin 2 × Off => openTok ER ((c : Thread nD τ), osem k)) ∗ payToks c)
/-- A device's launch credit. -/
def creds (c : Dev nD) : sProp 𝕄 :=
  iprop(cred (tallyAt (barCell c) () 31) ∗ (bigSepL offs fun i => cred (tallyAt (recvCell c i) () N)))

/-- What a device brings to the kernel. -/
def bring (c : Dev nD) : sProp 𝕄 := iprop((∃ κ, recs X κ ∗ own₀ c) ∗ creds c)
/-- The same once its own cells are open. -/
def start (c : Dev nD) : sProp 𝕄 :=
  iprop((∃ κ, recs X κ ∗ opens c ∗ atPos ER (barCell c) 0 ∅ 0
      ∗ (bigSepL offs fun i => atPos ER (sendCell c i) 0 ∅ 0) ∗ (bigSepL offs fun i => atPos ER (recvCell c i) 0 ∅ 0)
      ∗ payToks c)
    ∗ creds c ∗ levAts L lv)

theorem recs_own (κ : GSem nD τ sig → ℕ) (c : Dev nD) (k : Fin 2 × Off) :
    recs X κ ⊢ cellInv ER (talkRd X) (κ ((c : Thread nD τ), osem k)) ((c : Thread nD τ), osem k) := by
  obtain ⟨a, i⟩ := k
  refine (recs_dma X κ c i).trans ?_
  fin_cases a
  · iintro ⟨H, -⟩; iexact H
  · iintro ⟨-, H⟩; iexact H

theorem with_invs (κ : GSem nD τ sig → ℕ) (c : Dev nD) :
    iprop(recs X κ ∗ bigSep Finset.univ fun k : Fin 2 × Off => openTok ER ((c : Thread nD τ), osem k))
      ⊢ bigSep Finset.univ fun k : Fin 2 × Off => iprop(cellInv ER (talkRd X) (κ ((c : Thread nD τ), osem k)) ((c : Thread nD τ), osem k)
          ∗ openTok ER ((c : Thread nD τ), osem k)) :=
  bigSep_with_persistent (R := recs X κ) fun k _ => sep_mono (recs_own X κ c k) .rfl

/-- The opened cells' records, by kind. -/
theorem opened_split (c : Dev nD) :
    (bigSep Finset.univ fun k : Fin 2 × Off => iprop(atPos ER ((c : Thread nD τ), osem k) 0 ∅ 0 ∗ reached ER ((c : Thread nD τ), osem k) 0))
      ⊢ (iprop(opens c ∗ (bigSepL offs fun i => atPos ER (sendCell c i) 0 ∅ 0) ∗ (bigSepL offs fun i => atPos ER (recvCell c i) 0 ∅ 0)) : sProp 𝕄) := by
  unfold opens
  rw [bigSep_kinds]
  simp only [← bigSep_offs, bigSep_sep']
  iintro ⟨⟨H1, H2⟩, ⟨H3, H4⟩⟩
  isplitl [H2 H4]
  · isplitl [H2]
    · iexact H2
    · iexact H4
  isplitl [H1]
  · iexact H1
  · iexact H3

theorem start_intro (c : Dev nD) : iprop(bring X c ∗ Pipeline.ownSems0 osem c ∗ levAts L lv) ⊢ (|={Set.univ}=> start X c : sProp 𝕄) := by
  unfold bring start own₀
  iintro ⟨⟨⟨%κ, #HR, HatB, Hop, Htok⟩, Hcr⟩, Hos, #Hlev⟩
  ihave Hi := (with_invs X κ c) $$ [Hop]
  · isplitr
    · iexact HR
    · iexact Hop
  imod (cells_open ER (talkRd X) Finset.univ (fun k : Fin 2 × Off => ((c : Thread nD τ), osem k)) (fun k => κ ((c : Thread nD τ), osem k))
    (fun _ _ => Set.mem_univ _)) $$ [Hi Hos] with Ho
  · isplitl [Hi]
    · iexact Hi
    · unfold Pipeline.ownSems0
      iexact Hos
  ihave Ho' := (opened_split c) $$ Ho
  icases Ho' with ⟨Hopens, HatS, HatR⟩
  imodintro
  isplitr [Hcr]
  · iexists κ
    isplitr
    · iexact HR
    isplitl [Hopens]
    · iexact Hopens
    isplitl [HatB]
    · iexact HatB
    isplitl [HatS]
    · iexact HatS
    isplitl [HatR]
    · iexact HatR
    · iexact Htok
  isplitl [Hcr]
  · iexact Hcr
  · iexact Hlev

/-- The own counters at zero, by kind. -/
theorem ownSems_eq (c : Dev nD) : (Pipeline.ownSems0 osem c : sProp 𝕄)
    = iprop((bigSepL offs fun i => semVal (sendCell c i) 0) ∗ (bigSepL offs fun i => semVal (recvCell c i) 0)) := by
  unfold Pipeline.ownSems0
  rw [bigSep_kinds]
  rfl

/-! ## The launch credit -/

theorem owedR_sum (d : Dev nD) (g : GSem nD τ sig) : owedR d offs g () = ∑ i : Off, if g = recvCell (pr d i) i then N else 0 := by
  unfold owedR
  rw [← List.sum_toFinset _ offs_nodup, show offs.toFinset = Finset.univ from by decide, Finset.sum_apply, Finsupp.finset_sum_apply]
  exact Finset.sum_congr rfl fun i _ => by rw [tallyAt_apply]; simp
theorem owedB_sum (d : Dev nD) (g : GSem nD τ sig) : owedB d offs g () = ∑ i : Off, if g = barCell (pr d i) then 1 else 0 := by
  unfold owedB
  rw [← List.sum_toFinset _ offs_nodup, show offs.toFinset = Finset.univ from by decide, Finset.sum_apply, Finsupp.finset_sum_apply]
  exact Finset.sum_congr rfl fun i _ => by rw [tallyAt_apply]; simp

theorem barCell_eq_iff {c e : Dev nD} : barCell c = barCell e ↔ c = e := ⟨fun h => congrArg (fun g : GSem nD τ sig => g.1.1) h, fun h => h ▸ rfl⟩
theorem recvS_inj {i j : Off} (h : recvS i = recvS j) : i = j := by
  have := congrArg Fin.val h
  rw [recvS_val, recvS_val] at this
  exact Fin.ext (by omega)
theorem recvCell_eq_iff {c e : Dev nD} {i j : Off} : recvCell c i = recvCell e j ↔ c = e ∧ i = j :=
  ⟨fun h => ⟨congrArg (fun g : GSem nD τ sig => g.1.1) h, recvS_inj (SemLoc.dma.inj (congrArg Prod.snd h))⟩, fun ⟨h, h'⟩ => h ▸ h' ▸ rfl⟩
theorem bar_ne_recv (c e : Dev nD) (i : Off) : barCell c ≠ recvCell e i := fun h => reg_ne_dma barrier0 (recvS i) (congrArg (fun g : GSem nD τ sig => g.2) h)

theorem owed_bar (c : Dev nD) : ∑ d : Dev nD, O₀ d (barCell c) () = 31 := by
  have h (d : Dev nD) : O₀ d (barCell c) () = ∑ i : Off, if c = pr d i then 1 else 0 := by
    unfold O₀
    rw [Pi.add_apply, Finsupp.add_apply, owedR_sum, owedB_sum, Finset.sum_eq_zero fun i _ => if_neg (bar_ne_recv c _ i), Nat.zero_add]
    exact Finset.sum_congr rfl fun i _ => by simp only [barCell_eq_iff]
  rw [Finset.sum_congr rfl fun d _ => h d, Finset.sum_comm]
  refine (Finset.sum_congr rfl fun i _ => (Equiv.sum_comp (prEquiv i) (fun e => if c = e then 1 else 0)).trans (Fintype.sum_ite_eq c fun _ => 1)).trans ?_
  simp

theorem owed_recv (c : Dev nD) (i : Off) : ∑ d : Dev nD, O₀ d (recvCell c i) () = N := by
  have h (d : Dev nD) : O₀ d (recvCell c i) () = if c = pr d i then N else 0 := by
    unfold O₀
    rw [Pi.add_apply, Finsupp.add_apply, owedR_sum, owedB_sum, Finset.sum_eq_zero (s := Finset.univ) (f := fun j : Off => if recvCell c i = barCell (pr d j) then 1 else 0)
      fun j _ => if_neg (bar_ne_recv _ c i).symm, Nat.add_zero, Finset.sum_eq_single i (fun j _ hj => if_neg fun h => hj (recvCell_eq_iff.mp h).2.symm)
      fun h => absurd (Finset.mem_univ i) h]
    simp only [recvCell_eq_iff, and_true]
  rw [Finset.sum_congr rfl fun d _ => h d]
  exact (Equiv.sum_comp (prEquiv i) (fun e => if c = e then N else 0)).trans (Fintype.sum_ite_eq c fun _ => N)

theorem launch_bar (c : Dev nD) :
    tallyOn (barCell c) (launchCredit (Pipeline.owing O₀) 0 (barCell c)) = (tallyAt (barCell c) () 31 : CellTallies nD τ sig Unit) := by
  unfold tallyAt
  refine congrArg _ (Finsupp.ext fun u => ?_)
  cases u
  rw [Pipeline.launchCredit_owing, Finsupp.single_eq_same, owed_bar]
theorem launch_recv (c : Dev nD) (i : Off) :
    tallyOn (recvCell c i) (launchCredit (Pipeline.owing O₀) 0 (recvCell c i)) = (tallyAt (recvCell c i) () N : CellTallies nD τ sig Unit) := by
  unfold tallyAt
  refine congrArg _ (Finsupp.ext fun u => ?_)
  cases u
  rw [Pipeline.launchCredit_owing, Finsupp.single_eq_same, owed_recv]

def recvEmb : Off ↪ SemLoc sig := ⟨fun i => .dma (recvS i), fun _ _ h => recvS_inj (SemLoc.dma.inj h)⟩

theorem creds_intro (c : Dev nD) : (Pipeline.launchCred O₀ c : sProp 𝕄) ⊢ creds c := by
  unfold Pipeline.launchCred creds
  rw [bigSep_univ_at _ (SemLoc.reg barrier0), launch_bar]
  refine sep_mono_right ?_
  have h : (bigSepL offs fun i => (cred (tallyAt (recvCell c i) () N) : sProp 𝕄))
      = bigSep (Finset.univ.map recvEmb) fun sm =>
          cred (tallyOn ((c.tc : Thread nD τ), sm) (launchCredit (Pipeline.owing O₀) 0 ((c.tc : Thread nD τ), sm))) := by
    rw [bigSep_map, ← bigSep_offs]
    exact bigSep_congr fun i _ => congrArg cred (launch_recv c i).symm
  rw [h]
  exact bigSep_subset fun sm hsm => by
    obtain ⟨i, -, rfl⟩ := Finset.mem_map.mp hsm
    exact Finset.mem_erase.mpr ⟨(reg_ne_dma _ _).symm, Finset.mem_univ _⟩

end Cert.Moments

end
-- ==== Proof.Launch.lean ====
/-
  The launch: @main is a transpose of the block, then the kernel. The kernel enters with what the launch dealt (Ghost.lean), runs Body.lean's
  run, and leaves the result array at the run's result.
-/
module

public import proofs.«01_k».proof.Proof.Ghost
public import proofs.«01_k».proof.Proof.Gen.KernelIdeal.Frame
public import Idealize.ShloMosaic.Lib.Pipeline.RegionTalk

@[expose] public section

noncomputable section

namespace Cert.Moments

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- Each device's block as the kernel finds it, transposed by the host. -/
def Xs (c : Dev nD) : Vec F S2x128x64x128 .f32 := V m c main_v1
/-- The projection, an argument. -/
def Wp (c : Dev nD) : Vec F S64x128 .f32 := V m c main_arg1
/-- What the kernel computes. -/
def res (c : Dev nD) : (main_v2 : Ref sig .tc).ty.Contents (Elt F) := result (Xs m) c (Wp m c)

/-- The buffers at launch, at the kernel's entry, and at its exit. -/
def V₀ (c : Dev nD) : Valuation τ sig (Elt F) := fun b => m (c, b)
def V₁ (c : Dev nD) : Valuation τ sig (Elt F) := StableHlo.after hostOps0 (V₀ m c)
def V₂ (c : Dev nD) : Valuation τ sig (Elt F) := Function.update (V₁ m c) (Proc.devRef .tc main_v2) (res m c)

/-! ## The kernel's proof data -/

def Φ₀ (c : Dev nD) : sProp 𝕄 := iprop(start (Xs m) c ∗ (∃ f, scPts c f) ∗ ∃ r, prngReg c r)
def Φ₁ (c : Dev nD) : sProp 𝕄 := iprop(semVal (barCell c) 0
  ∗ ((bigSepL offs fun i => semVal (sendCell c i) 0) ∗ (bigSepL offs fun i => semVal (recvCell c i) 0)) ∗ (∃ f, scPts c f) ∗ ∃ r, prngReg c r)

def dat (c : Dev nD) : Dat τ (Elt F) Unit ℕ UU ℕ cfg0 c where
  A w := V₁ m c (Proc.devRef .tc (Pipeline.arrRef spec0 w))
  after w _ := match w with
    | ⟨0, _⟩ => Xs m c
    | ⟨1, _⟩ => Wp m c
    | ⟨2, _⟩ => res m c
  Φ t := if t.val = 0 then Φ₀ m c else Φ₁ c
  q _ := fullShare
  owed t := if t.val = 0 then O₀ c else 0

abbrev pdats (_ : Fin 1) (c : Dev nD) : Dat τ (Elt F) Unit ℕ UU ℕ cfg0 c := dat m c

theorem share_eq (c : Dev nD) (w) : (dat m c).share w = fullShare := by unfold Dat.share; split <;> rfl

/-! ## The windows: whole arrays -/

theorem blk_read_0 (t : Fin cfg0.N) (f : (main_v1 : Ref sig .tc).ty.Contents (Elt F)) : ((cfg0.win 0).blk t).view.read (Elt F) f = f :=
  Memref.read_access_unit_zero (Elt F) main_v1 (funext fun a => Nat.zero_mul _) _ f
theorem blk_read_1 (t : Fin cfg0.N) (f : (main_arg1 : Ref sig .tc).ty.Contents (Elt F)) : ((cfg0.win 1).blk t).view.read (Elt F) f = f :=
  Memref.read_access_unit_zero (Elt F) main_arg1 (funext fun a => Nat.zero_mul _) _ f
theorem blk_write_2 (t : Fin cfg0.N) (f w : (main_v2 : Ref sig .tc).ty.Contents (Elt F)) :
    ((cfg0.win 2).blk t).view.write (Elt F) f w Finset.univ = w :=
  Memref.write_access_unit_zero_univ (Elt F) main_v2 (funext fun a => Nat.zero_mul _) _ f w

theorem before_0 (c : Dev nD) (t : Fin cfg0.N) (d) : (dat m c).before 0 t d = Xs m c := by
  unfold Dat.before
  rw [if_pos (fetch0_0 t)]
  exact blk_read_0 (F := F) t (Xs m c)
theorem before_1 (c : Dev nD) (t : Fin cfg0.N) (d) : (dat m c).before 1 t d = Wp m c := by
  unfold Dat.before
  rw [if_pos (fetch0_1 t)]
  exact blk_read_1 (F := F) t (Wp m c)

/-! ## The body obligation -/

theorem owesAt_intro (c : Dev nD) (t : Fin (cfg0.N + 1)) (O : CellTallies nD τ sig Unit) (h : (dat m c).owed t = O) (W : Waits sig Unit) :
    (owes (c : Thread nD τ) O W : sProp 𝕄) ⊢ (dat m c).owesAt () t := by
  unfold Dat.owesAt Pipeline.owesWithin
  rw [h]
  iintro HO
  iexists W
  isplitr
  · ipureintro
    exact fun _ _ => Or.inl trivial
  · iexact HO
theorem owesAt_elim (c : Dev nD) (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin
  rw [h]
  iintro ⟨%W, -, HO⟩
  iexists W
  iexact HO

theorem owed_first (c : Dev nD) : (dat m c).owed t0_0.castSucc = O₀ c := rfl
theorem owed_last (c : Dev nD) : (dat m c).owed t0_0.succ = 0 := rfl

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

/-- The body's obligation, read at the one point: what the pipeline hands over, -/
def bodyPre (c : Dev nD) : sProp 𝕄 :=
  iprop(Φ₀ m c ∗ (dat m c).owesAt () t0_0.castSucc
    ∗ (∃ d, stg c cc0_stg0_0 ((dat m c).before (0 : Fin 3) t0_0 d))
    ∗ (∃ d, stg c cc0_stg1_0 ((dat m c).before (1 : Fin 3) t0_0 d))
    ∗ (∃ d, stg c cc0_stg2_0 ((dat m c).before (2 : Fin 3) t0_0 d)))
/-- and what it wants back. -/
def bodyPost (c : Dev nD) : sProp 𝕄 :=
  iprop(Φ₁ c ∗ (dat m c).owesAt () t0_0.succ ∗ stg c cc0_stg0_0 (Xs m c) ∗ stg c cc0_stg1_0 (Wp m c) ∗ stg c cc0_stg2_0 (res m c))

set_option maxHeartbeats 800000 in
theorem body_run (c : Dev nD) : bodyPre m c ⊢ wp frame (wpE (defs₀ (F := F)) 𝒱₀ c none) Set.univ
    (bodyOf (fun i c => pr c i) (fun i c => pr c i) xM wM oM (Memref.isWhole_whole _)) (fun _ => bodyPost m c) := by
  unfold bodyPre Φ₀ start payToks creds
  iintro ⟨⟨⟨⟨%κ, #HR, #Hop, HatB, HatS, HatR, HtB, HtS, HtR⟩, ⟨HcB, HcR⟩, #Hlev⟩, Hscr, Hp⟩, Ho,
    ⟨%d0, %g0, %hg0, Hx⟩, ⟨%d1, %g1, %hg1, Hw⟩, ⟨%d2, %g2, -, Hout⟩⟩
  obtain rfl : g0 = Xs m c := hg0.trans (before_0 m c t0_0 d0)
  obtain rfl : g1 = Wp m c := hg1.trans (before_1 m c t0_0 d1)
  ihave HO := (owesAt_elim m c t0_0.castSucc (O₀ c) (owed_first m c)) $$ Ho
  icases HO with ⟨%W, HO⟩
  iapply (run (Xs m) κ c (Wp m c) W (fun _ => bodyPost m c))
  isplitr [Hp]
  · unfold runPre
    isplitr; · iexact HR
    isplitr; · iexact Hop
    isplitr; · iexact Hlev
    isplitl [HatB]; · iexact HatB
    isplitl [HatS]; · iexact HatS
    isplitl [HatR]; · iexact HatR
    isplitl [HtB]; · iexact HtB
    isplitl [HtS]; · iexact HtS
    isplitl [HtR]; · iexact HtR
    isplitl [HcB]; · iexact HcB
    isplitl [HcR]; · iexact HcR
    isplitl [Hscr]; · iexact Hscr
    isplitl [Hx]; · iexact Hx
    isplitl [Hw]; · iexact Hw
    isplitl [Hout]
    · iexists g2
      iexact Hout
    · iexact HO
  unfold runPost bodyPost Φ₁
  iintro ⟨Hb0, Hs0, Hr0, Hscr, Hx, Hw, Hout, ⟨%W', HO⟩⟩
  isplitl [Hb0 Hs0 Hr0 Hscr Hp]
  · isplitl [Hb0]; · iexact Hb0
    isplitl [Hs0 Hr0]
    · isplitl [Hs0]
      · iexact Hs0
      · iexact Hr0
    isplitl [Hscr]
    · iexact Hscr
    · iexact Hp
  isplitl [HO]
  · iapply (owesAt_intro m c t0_0.succ 0 (owed_last m c) W')
    iexact HO
  isplitl [Hx]
  · iexists _
    isplitr
    · ipureintro
      rfl
    · iexact Hx
  isplitl [Hw]
  · iexists _
    isplitr
    · ipureintro
      rfl
    · iexact Hw
  iexists _
  isplitr
  · ipureintro
    rfl
  · iexact Hout

set_option maxRecDepth 16000 in
theorem body (c : Dev nD) : BodyObligation (dat m c) defs₀ 𝒱₀ () Set.univ := fun t => by
  obtain rfl := fin_N0 t
  rw [bigSep_W0, bigSep_W0]
  simp only [owns_whole_eq]
  show bodyPre m c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0)
      (Memref.isWhole_whole _) (Memref.whole cc0_scratch0) (Memref.isWhole_whole _) cc0_scratch1 cc0_scratch2) (fun _ => bodyPost m c)
  rw [body_eq]
  exact body_run m c

/-! ## The kernel as a region of @main -/

/-- The buffers no window stages: the untransposed block. -/
abbrev restRefs : Finset (DevRef τ sig) := {Proc.devRef .tc main_arg0}

theorem hin (c : Dev nD) : iprop(Pipeline.scopedRest (Pipeline.pin (pcfgs (F := F)) (fun p => (cfgs p).toPCfg_adm) 0).spec c ∗ (∃ r, prngReg c r)
      ∗ StableHlo.held (c.tc : Thread nD τ) ∅ (V₁ m c) ∗ start (Xs m) c)
    ⊢ (pdats m 0 c).Φ 0 := by
  rw [show (pdats m 0 c).Φ 0 = Φ₀ m c from rfl,
    show (Pipeline.scopedRest (Pipeline.pin (pcfgs (F := F)) (fun p => (cfgs p).toPCfg_adm) 0).spec c : sProp 𝕄) = iprop(∃ f, scPts c f)
      from scopedRest0_eq c]
  unfold Φ₀
  iintro ⟨Hs, Hp, -, Hst⟩
  isplitl [Hst]
  · iexact Hst
  isplitl [Hs]
  · iexact Hs
  · iexact Hp

theorem hout (c : Dev nD) : (pdats m 0 c).Φ (Fin.last (Pipeline.pin (pcfgs (F := F)) (fun p => (cfgs p).toPCfg_adm) 0).N)
    ⊢ iprop(Pipeline.scopedRest (Pipeline.pin (pcfgs (F := F)) (fun p => (cfgs p).toPCfg_adm) 0).spec c ∗ (∃ r, prngReg c r)
      ∗ StableHlo.held (c.tc : Thread nD τ) ∅ (V₂ m c) ∗ Pipeline.ownSems0 osem c ∗ semVal (barCell c) 0) := by
  rw [show (pdats m 0 c).Φ (Fin.last _) = Φ₁ c from rfl, ownSems_eq,
    show (Pipeline.scopedRest (Pipeline.pin (pcfgs (F := F)) (fun p => (cfgs p).toPCfg_adm) 0).spec c : sProp 𝕄) = iprop(∃ f, scPts c f)
      from scopedRest0_eq c,
    show (StableHlo.held (c.tc : Thread nD τ) ∅ (V₂ m c) : sProp 𝕄) = BI.emp from BI.bigSep_empty]
  unfold Φ₁
  iintro ⟨Hb, Hss, Hs, Hp⟩
  isplitl [Hs]
  · iexact Hs
  isplitl [Hp]
  · iexact Hp
  isplitr
  · iempintro
  isplitl [Hss]
  · iexact Hss
  · iexact Hb

theorem V₂_ne (c : Dev nD) {b : DevRef τ sig} (h : b ≠ Proc.devRef .tc main_v2) : V₂ m c b = V₁ m c b := Function.update_of_ne h _ _
theorem V₂_res (c : Dev nD) : V₂ m c (Proc.devRef .tc main_v2) = res m c := Function.update_self _ _ _

theorem arr_first (c : Dev nD) (w : Fin 3) : (pdats m 0 c).arrAt w 0 = V₁ m c (Proc.devRef .tc (Pipeline.arrRef spec0 w)) := rfl
theorem arr_last (c : Dev nD) (w : Fin 3) : (pdats m 0 c).arrAt w cfg0.N = V₂ m c (Proc.devRef .tc (Pipeline.arrRef spec0 w)) := by
  match w with
  | ⟨0, _⟩ => exact ((dat m c).arrAt_in 0 rfl _).trans (V₂_ne m c (b := Proc.devRef .tc main_v1) (by decide)).symm
  | ⟨1, _⟩ => exact ((dat m c).arrAt_in 1 rfl _).trans (V₂_ne m c (b := Proc.devRef .tc main_arg1) (by decide)).symm
  | ⟨2, _⟩ =>
    refine Eq.trans ?_ (V₂_res m c).symm
    have h := (dat m c).arrAt_succ (2 : Fin 3) t0_0
    rw [if_pos (flush0_2 t0_0)] at h
    exact h.trans (blk_write_2 t0_0 _ _)

theorem stage_levels (c : Dev nD) (w : Fin 3) (s : Fin (spec0 w).nbuf) : lv ((c : Thread nD τ), .dma ((spec0 w).sem s)) () ≤ 0 := by
  show (if 35 < ((spec0 w).sem s).val then 2 else 0) ≤ 0
  rw [if_neg (by have := stage_sem_lt w s; omega)]

theorem owed_levels (c : Dev nD) (t : Fin (cfg0.N + 1)) (g : GSem nD τ sig) (i : Unit) (h : 0 < (dat m c).owed t g i) :
    i ∈ L g ∧ 0 < lv g i := by
  have e : (dat m c).owed t = if t.val = 0 then O₀ c else 0 := rfl
  rw [e] at h
  split at h
  · unfold O₀ at h
    rw [Pi.add_apply, Finsupp.add_apply] at h
    rcases Nat.add_pos_iff_pos_or_pos.mp h with h | h
    · obtain ⟨j, rfl⟩ := owedR_pos h
      exact ⟨by rw [L_tc]; exact Finset.mem_singleton_self _, by rw [lv_recv]; decide⟩
    · obtain ⟨j, rfl⟩ := owedB_pos h
      exact ⟨by rw [L_tc]; exact Finset.mem_singleton_self _, by rw [lv_bar]; decide⟩
  · exact absurd h (Nat.lt_irrefl 0)

set_option backward.isDefEq.respectTransparency.types false in
def region : Pipeline.RegionSeg (pcfgs (F := F)) (fun p => (cfgs p).toPCfg_adm) (pdats m) () defs₀ 𝒱₀ L lv 0 :=
  Pipeline.RegionSeg.ofTalk (pcfgs (F := F)) (fun p => (cfgs p).toPCfg_adm) (pdats m) () defs₀ 𝒱₀ L lv 0 osem ownFacts
    ∅ restRefs (Finset.empty_subset _) launch0.toP rfl (fun c => (body m c).loose)
    (fun _ => 0) O₀ (fun c => (zero_add (O₀ c)).symm) (fun _ => rfl) (fun _ => rfl) (share_eq m)
    (V₁ m) (V₂ m) (fun c b hb => V₂_ne m c (by
      have := Finset.mem_singleton.mp (Finset.mem_sdiff.mp hb).1
      subst this
      decide))
    (bring (Xs m)) (fun c => semVal (barCell c) 0) (start (Xs m)) (fun c => semVal (barCell c) 0) (start_intro (Xs m)) (hin m) (hout m)
    (fun c => by iintro H; imodintro; iexact H)
    (fun _ => 0)
    ⟨fun c w s => by rw [L_tc]; exact Finset.mem_singleton_self _, fun c w s => stage_levels c w s, fun c t g i h => owed_levels m c t g i h⟩
    (fun _ => iprop(emp))
    (arr_first m) (arr_last m)

end Cert.Moments

end
-- ==== Proof.Run.lean ====
/-
  THE RUN: from any memory with zero counters, every weakly fair execution of @main on the 32 devices terminates; in every final state each
  device's arguments are unchanged, its result array holds what Body.lean's run computes from ALL the devices' blocks, and every
  semaphore counter of the machine is zero.
-/
module

public import proofs.«01_k».proof.Proof.Launch

@[expose] public section

noncomputable section

namespace Cert.Moments

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## @main's buffers -/

abbrev bufs : Finset (DevRef τ sig) := Pipeline.ucRefs τ sig
abbrev arrs : Finset (DevRef τ sig) := Pipeline.arrRefs (τ := τ) (pcfgs (F := F) 0).spec

theorem arrs_eq : arrs (F := F) = {Proc.devRef .tc main_v1, Proc.devRef .tc main_arg1, Proc.devRef .tc main_v2} := rfl
theorem bufs_eq : bufs = {Proc.devRef .tc main_arg0, Proc.devRef .tc main_v1, Proc.devRef .tc main_arg1, Proc.devRef .tc main_v2} := by decide

theorem bufs_split (c : Dev nD) (W : Valuation τ sig (Elt F)) :
    (StableHlo.held (c.tc : Thread nD τ) bufs W : sProp 𝕄)
      = iprop(StableHlo.held (c.tc : Thread nD τ) (arrs (F := F)) W ∗ StableHlo.held (c.tc : Thread nD τ) restRefs W) := by
  rw [StableHlo.held_sub_split (c.tc : Thread nD τ) (T := arrs (F := F)) (by rw [arrs_eq, bufs_eq]; decide) W,
    show bufs \ arrs (F := F) = restRefs by rw [arrs_eq, bufs_eq]; decide]

theorem held_bufs (c : Dev nD) (W : Valuation τ sig (Elt F)) :
    (StableHlo.held (c.tc : Thread nD τ) bufs W : sProp 𝕄)
      = iprop((((c : Thread nD τ).loc main_arg0) ↦{fullShare} W main_arg0) ∗ (((c : Thread nD τ).loc main_v1) ↦{fullShare} W main_v1)
          ∗ (((c : Thread nD τ).loc main_arg1) ↦{fullShare} W main_arg1) ∗ (((c : Thread nD τ).loc main_v2) ↦{fullShare} W main_v2)) := by
  unfold StableHlo.held
  rw [bigSep_eq_bigSepL_of_eq [Proc.devRef .tc main_arg0, Proc.devRef .tc main_v1, Proc.devRef .tc main_arg1, Proc.devRef .tc main_v2]
    (by rw [bufs_eq]; decide) (by decide)]
  rfl

/-! ## The segments -/

/-- What rides along beside the buffers through the host's transpose. -/
def ride (c : Dev nD) : sProp 𝕄 := iprop(bring (Xs m) c ∗ (∃ r, prngReg c r) ∗ ∃ W, owes (c : Thread nD τ) (O₀ c) W)

def host : Pipeline.HostSeg (Name := ℕ) (U := UU) (pcfgs (F := F)) defs₀ 𝒱₀ L lv :=
  Pipeline.HostSeg.ofOps _ _ _ _ _ bufs hostOps0
    (fun op h => Pipeline.sub_ucRefs op (List.forall_iff_forall_mem.mp hostOps0_sub op h))
    (fun op h => List.forall_iff_forall_mem.mp hostOps0_fresh op h) (V₀ m) (ride m)

theorem region_pre (c : Dev nD) : iprop(StableHlo.held (c : Thread nD τ) bufs (V₁ m c) ∗ ride m c) ⊢ (region m).pre c := by
  show _ ⊢ iprop(StableHlo.held (c.tc : Thread nD τ) (arrs (F := F)) (V₁ m c) ∗ (∃ r, prngReg c r)
    ∗ (StableHlo.held (c.tc : Thread nD τ) restRefs (V₁ m c) ∗ emp) ∗ bring (Xs m) c ∗ ∃ Wd, owes (c : Thread nD τ) (0 + O₀ c) Wd)
  rw [bufs_split, zero_add]
  unfold ride
  iintro ⟨⟨Ha, Hr⟩, Hb, Hp, HO⟩
  isplitl [Ha]; · iexact Ha
  isplitl [Hp]; · iexact Hp
  isplitl [Hr]
  · isplitl [Hr]
    · iexact Hr
    · iempintro
  isplitl [Hb]
  · iexact Hb
  · iexact HO

def Tₙ (c : Dev nD) : sProp 𝕄 := iprop(StableHlo.held (c : Thread nD τ) bufs (V₂ m c) ∗ semVal (barCell c) 0)

theorem region_post (c : Dev nD) : (region m).post c
    ⊢ iprop(Tₙ m c ∗ ∃ W, owes (c : Thread nD τ) (0 : CellTallies nD τ sig Unit) W) := by
  show iprop(StableHlo.held (c.tc : Thread nD τ) (arrs (F := F)) (V₂ m c) ∗ (∃ r, prngReg c r)
    ∗ (StableHlo.held (c.tc : Thread nD τ) restRefs (V₂ m c) ∗ emp) ∗ semVal (barCell c) 0
    ∗ ∃ Wd, owes (c : Thread nD τ) (0 : CellTallies nD τ sig Unit) Wd) ⊢ _
  unfold Tₙ
  rw [bufs_split]
  iintro ⟨Ha, -, ⟨Hr, -⟩, Hb, HO⟩
  isplitr [HO]
  · isplitl [Ha Hr]
    · isplitl [Ha]
      · iexact Ha
      · iexact Hr
    · iexact Hb
  · iexact HO

def segs : List (Pipeline.Seg (pcfgs (F := F)) (fun p => (cfgs p).toPCfg_adm) (pdats m) () defs₀ 𝒱₀ L lv) := [.host (host m), .region (region m)]

/-! ## What the launch makes -/

theorem both_split {Φ Ψ : Dev nD → sProp 𝕄} : bigSep Finset.univ (fun c => iprop(Φ c ∗ Ψ c)) ⊢ iprop(bigSep Finset.univ Φ ∗ bigSep Finset.univ Ψ) :=
  Entails.of_eq (bigSep_sep' ..)
theorem both_join {Φ Ψ : Dev nD → sProp 𝕄} : iprop(bigSep Finset.univ Φ ∗ bigSep Finset.univ Ψ) ⊢ bigSep Finset.univ (fun c => iprop(Φ c ∗ Ψ c)) :=
  Entails.of_eq (bigSep_sep' ..).symm

def u₀ : UU := (initOf (Pipeline.cells cfgs cellOf_inj) (Pipeline.launchToks cfgs cellOf_inj), launchOf barCells dmaCells toks)

/-- A resource as a family over the devices: all of it on one. -/
def parked (P : sProp 𝕄) (c : Dev nD) : sProp 𝕄 := if c = 0 then P else iprop(emp)
theorem bigSep_parked (P : sProp 𝕄) : bigSep Finset.univ (parked P) = P := by
  rw [bigSep_univ_at _ (0 : Dev nD), bigSep_congr (s := Finset.univ.erase 0) (Ψ := fun _ => (BI.emp : sProp 𝕄))
      fun c hc => by unfold parked; rw [if_neg (Finset.ne_of_mem_erase hc)]; rfl, BI.bigSep_emp_const]
  unfold parked
  rw [if_pos rfl]
  exact BI.equiv_iff.mp sep_emp

/-- The protocol's part of the launch element. -/
def G : Dev nD → sProp 𝕄 := parked (BI.own (ER (launchOf barCells dmaCells toks)))

abbrev T₀ (c : Dev nD) : sProp 𝕄 := iprop(StableHlo.held (c : Thread nD τ) bufs (V₀ m c) ∗ ride m c)

/-- What of a device's launch holdings is not the protocol's ghost state. -/
def plain (c : Dev nD) : sProp 𝕄 :=
  iprop(StableHlo.held (c : Thread nD τ) bufs (V₀ m c) ∗ creds c ∗ owes (c : Thread nD τ) (O₀ c) ∅ ∗ ∃ r, prngReg c r)

theorem T₀_intro (κ : GSem nD τ sig → ℕ) (c : Dev nD) : iprop(recs (Xs m) κ ∗ (own₀ c ∗ plain m c)) ⊢ T₀ m c := by
  unfold plain T₀ ride bring
  iintro ⟨#HR, Ho, Hh, Hcr, HO, Hp⟩
  isplitl [Hh]; · iexact Hh
  isplitl [Ho Hcr]
  · isplitl [Ho]
    · iexists κ
      isplitr
      · iexact HR
      · iexact Ho
    · iexact Hcr
  isplitl [Hp]
  · iexact Hp
  · iexists ∅
    iexact HO

theorem unscoped_eq : ∀ sm : SemLoc sig, sm.isScoped .tc = false → sm = .reg barrier0 := by decide +kernel
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barrier0} from by decide +kernel, BI.bigSep_singleton]

abbrev given (c : Dev nD) : sProp 𝕄 := iprop(unscopedBufs c (fun b => m ((c : Thread nD τ).loc b)) ∗ unscopedSems0 c
  ∗ owes (c : Thread nD τ) (O₀ c) ∅ ∗ Pipeline.launchCred O₀ c ∗ prngReg c (ρ c) ∗ G c)

theorem given_sorted (c : Dev nD) : given m ρ c ⊢ (iprop(plain m c ∗ (semVal (barCell c) 0 ∗ G c)) : sProp 𝕄) := by
  unfold given
  rw [show unscopedBufs c (fun b => m ((c : Thread nD τ).loc b)) = StableHlo.held (c : Thread nD τ) bufs (V₀ m c)
    from Pipeline.unscopedBufs_held c (V₀ m c), unscopedSems0_eq]
  unfold plain
  iintro ⟨Hh, Hus, HO, Hcr, Hp, HG⟩
  ihave Hc := (creds_intro (F := F) c) $$ Hcr
  isplitl [Hh Hc HO Hp]
  · isplitl [Hh]; · iexact Hh
    isplitl [Hc]; · iexact Hc
    isplitl [HO]; · iexact HO
    iexists (ρ c)
    iexact Hp
  isplitl [Hus]
  · iexact Hus
  · iexact HG

theorem init : iprop((bigSep Finset.univ fun c : Dev nD => given m ρ c) ∗ levAts L lv) ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep dmaCells (fun g => (openTok ER g : sProp 𝕄))
      ⊢ bigSep Finset.univ (fun c : Dev nD => bigSep Finset.univ fun k : Fin 2 × Off => openTok ER ((c : Thread nD τ), osem k)) :=
    Entails.of_eq (by
      rw [bigSep_map, bigSep_univ_prod]
      rfl)
  iintro ⟨H, -⟩
  ihave H' := (show (bigSep Finset.univ fun c : Dev nD => given m ρ c)
      ⊢ (bigSep Finset.univ fun c : Dev nD => iprop(plain m c ∗ (semVal (barCell c) 0 ∗ G c)) : sProp 𝕄) from bigSep_mono fun c _ => given_sorted m ρ c) $$ H
  ihave H2 := both_split $$ H'
  icases H2 with ⟨HB, H3⟩
  ihave H4 := both_split $$ H3
  icases H4 with ⟨Hv, HG⟩
  ihave Hu := (show bigSep Finset.univ (G (F := F)) ⊢ BI.own (ER (launchOf barCells dmaCells toks)) from
    Entails.of_eq (bigSep_parked (F := F) (BI.own (ER (launchOf barCells dmaCells toks))))) $$ HG
  imod (Rounds.fund_launch ER (talkRd (Xs m)) cells_disjoint (fun g _ h => h) toks) $$ [Hv Hu] with ⟨%κ, -, #Hinv, #Hr, Hat, Hopen, Htok⟩
  · isplitl [Hv]
    · iapply hv $$ Hv
    · iexact Hu
  imodintro
  iapply (bigSep_with_persistent (R := recs (Xs m) κ) (Φ := fun c => iprop(own₀ c ∗ plain m c)) fun c _ => T₀_intro m κ c)
  isplitr
  · iapply (recs_intro (Xs m) κ)
    isplitr
    · iexact Hinv
    · iexact Hr
  iapply both_join
  isplitr [HB]
  · unfold own₀
    iapply both_join
    isplitl [Hat]
    · iapply hat $$ Hat
    iapply both_join
    isplitl [Hopen]
    · iapply hop $$ Hopen
    iapply (toks_dealt (F := F)) $$ Htok
  · iexact HB

/-! ## The run -/

theorem V₁_arg0 (c : Dev nD) : V₁ m c main_arg0 = m ((c : Thread nD τ).loc main_arg0) := V_main_arg0 m c
theorem V₁_arg1 (c : Dev nD) : V₁ m c main_arg1 = m ((c : Thread nD τ).loc main_arg1) := V_main_arg1 m c

set_option backward.isDefEq.respectTransparency.types false in
theorem run_main : θ_run defs (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_v2) = res m c) ∧ r.2.sem = fun _ => 0) :=
  Pipeline.θ_run_regions_kit_sems (pcfgs (F := F)) (fun p => (cfgs p).toPCfg_adm) (pdats m) () cellOf_inj EP defs₀ 𝒱₀ L lv m ρ main (segs m)
    (fun c Q => by rw [main_segs (fun p => (cfgs p).toPCfg_adm) (pdats m) () 𝒱₀ L lv (host m) (region m) rfl c]; exact Entails.refl _)
    (by simp only [segs, Pipeline.Seg.pipes_host, Pipeline.Seg.pipes_region, Pipeline.Seg.pipes_nil]; decide)
    (O₀ := O₀) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [bigSep_parked]
      iexact HX)
    (T₀ := T₀ m) (Tₙ := Tₙ m)
    (hch := ⟨fun c => .rfl, fun c => region_pre m c, fun c => region_post m c⟩)
    (hinit := init m ρ)
    (QY := fun c s => (s.mem ((Memref.whole main_arg0).view.loc (c : Thread nD τ)) = V₂ m c main_arg0
        ∧ s.mem ((Memref.whole main_arg1).view.loc (c : Thread nD τ)) = V₂ m c main_arg1
        ∧ s.mem ((Memref.whole main_v2).view.loc (c : Thread nD τ)) = V₂ m c main_v2)
      ∧ s.sem (barCell c) = 0)
    (hfin := fun c s' => by
      unfold Tₙ
      rw [held_bufs]
      iintro ⟨⟨⟨H0, -, H1, H2⟩, Hb0⟩, HSI⟩
      icombine HSI H0 gives %h0
      icombine HSI H1 gives %h1
      icombine HSI H2 gives %h2
      icombine HSI Hb0 gives %hb
      imodintro
      isplitr
      · ipureintro
        exact ⟨⟨Buf.eq_of_forall_mem_univ h0, Buf.eq_of_forall_mem_univ h1, Buf.eq_of_forall_mem_univ h2⟩, by simpa using hb⟩
      iexact HSI)
    (hQ := fun s h hs => ⟨fun c => by
        obtain ⟨⟨h0, h1, h2⟩, -⟩ := h c
        rw [V₂_ne m c (by decide)] at h0 h1
        rw [V₂_res] at h2
        exact ⟨h0.trans (V₁_arg0 m c), h1.trans (V₁_arg1 m c), h2⟩,
      sem_eq_zero hs fun c sm hsm => by
        obtain rfl := unscoped_eq sm hsm
        exact (h c).2⟩)

end Cert.Moments

end
-- ==== Proof.Frames.lean ====
/-
  THE FRAMES: each is the run of Run.lean with the values dropped. The two programs have the same text, read at different float types,
  so the one run, made for every float type, gives both.
-/
module

public import proofs.«01_k».proof.Defs
public import proofs.«01_k».proof.Proof.Run
public import proofs.«01_k».proof.Proof.Gen.Kernel
public import proofs.«01_k».proof.Proof.Gen.Pre_finite_x_KernelIdeal
public import proofs.«01_k».proof.Proof.Gen.Pre_finite_x_ReferenceIdeal
public import proofs.«01_k».proof.Proof.Gen.ReferenceIdeal.Run
public import Idealize.ShloMosaic.Lib.Quiescent

@[expose] public section

noncomputable section

namespace Cert.Moments

open Idealize.ShloMosaic Idealize.SL.Sem

theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

theorem frame_ideal_pre : Cert.quiescent_KernelIdeal_pre_finite_x_KernelIdeal (hPre_finite_x_KernelIdeal := Cert.Pre_finite_x_KernelIdeal.Gen.facts) :=
  fun m ρ _ => frame_ideal m ρ trivial

/-! ## The other program's text is the same -/

section
variable {F : FTy → Type} [FloatOps F]

theorem cc0_body_eq : Cert.Kernel.cc0_body (F := F) = Cert.KernelIdeal.cc0_body (F := F) := rfl

theorem defs₀_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem defs_eq : Cert.Kernel.defs (F := F) = Cert.KernelIdeal.defs (F := F) := by
  unfold Cert.Kernel.defs Cert.KernelIdeal.defs
  rw [defs₀_eq]
  rfl

end

theorem frame_kernel : Cert.quiescent_Kernel := fun m ρ _ => by
  rw [defs_eq]
  exact (θ_run Cert.KernelIdeal.defs _ _).mono (fun _ h => ⟨fun c => ⟨(h.1 c).1, (h.1 c).2.1⟩, h.2⟩) (run_main (F := Bits) m ρ)

/-! ## The reference -/

theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ref_pre :
    Cert.quiescent_ReferenceIdeal_pre_finite_x_ReferenceIdeal (hPre_finite_x_ReferenceIdeal := Cert.Pre_finite_x_ReferenceIdeal.Gen.facts) :=
  fun m ρ _ => frame_ref m ρ trivial

end Cert.Moments

end
-- ==== Proof.Sums.lean ====
/-
  SUMS AND MOMENTS. Two readings of a sum over two axes of a rank-four array, and the arithmetic that makes the two programs agree:
  the mean square less the squared mean is the mean squared deviation, a product with an inverse square root is a quotient by a square
  root, and x · logistic x is x / (1 + exp (-x)). All of it over the reals, where every argument is finite.
-/
module

public import Idealize.ShloMosaic.Lib.Pointwise
public import Idealize.ShloMosaic.Lib.IdealHost

@[expose] public section

noncomputable section

namespace Cert.Moments

open Idealize.ShloMosaic

/-! ## Two axes summed -/

section
variable {n0 n1 n2 n3 : Nat}

/-- A kernel's sum over axes 1 and 3. -/
theorem sum_axes13 (h : (⟨4, ![n0, n1, n2, n3]⟩ : Shape).Reduces [1, 3] ⟨2, ![n0, n2]⟩) (v : (⟨4, ![n0, n1, n2, n3]⟩ : Shape).Idx → EReal)
    (a : Fin n0) (k : Fin n2) :
    Ideal.reduceAdd h v (ix2 a k) = ∑ p : Fin n1 × Fin n3, v (ix4 a p.1 k p.2) := by
  refine Finset.sum_filter_eq_sum_of_fiber (fun i => h.drop i = ix2 a k) (fun p : Fin n1 × Fin n3 => ix4 a p.1 k p.2)
    (fun p q e => Prod.ext (congrFun e 1) (congrFun e 3)) (fun i => ⟨fun e => ⟨(i 1, i 3), ?_⟩, ?_⟩) v
  · have e0 : (i 0 : Nat) = a := congrArg Fin.val (congrFun e 0)
    have e2 : (i 2 : Nat) = k := congrArg Fin.val (congrFun e 1)
    funext x
    apply Fin.ext
    match x with
    | ⟨0, _⟩ => exact e0.symm
    | ⟨1, _⟩ => rfl
    | ⟨2, _⟩ => exact e2.symm
    | ⟨3, _⟩ => rfl
  · rintro ⟨p, rfl⟩
    funext x
    apply Fin.ext
    match x with
    | ⟨0, _⟩ => rfl
    | ⟨1, _⟩ => rfl

/-- The host's sum over axes 1 and 2. -/
theorem sum_axes12 (h : (⟨4, ![n0, n1, n2, n3]⟩ : Shape).ReducesTo [1, 2] ⟨2, ![n0, n3]⟩) (v : (⟨4, ![n0, n1, n2, n3]⟩ : Shape).Idx → EReal)
    (init : EReal) (a : Fin n0) (k : Fin n3) :
    Ideal.hostReduceAdd h v init (ix2 a k) = init + ∑ p : Fin n1 × Fin n2, v (ix4 a p.1 p.2 k) := by
  refine congrArg (init + ·) (Finset.sum_filter_eq_sum_of_fiber (fun i => h.drop i = ix2 a k) (fun p : Fin n1 × Fin n2 => ix4 a p.1 p.2 k)
    (fun p q e => Prod.ext (congrFun e 1) (congrFun e 2)) (fun i => ⟨fun e => ⟨(i 1, i 2), ?_⟩, ?_⟩) v)
  · have e0 : (i 0 : Nat) = a := congrArg Fin.val (congrFun e 0)
    have e3 : (i 3 : Nat) = k := congrArg Fin.val (congrFun e 1)
    funext x
    apply Fin.ext
    match x with
    | ⟨0, _⟩ => exact e0.symm
    | ⟨1, _⟩ => rfl
    | ⟨2, _⟩ => rfl
    | ⟨3, _⟩ => exact e3.symm
  · rintro ⟨p, rfl⟩
    funext x
    apply Fin.ext
    match x with
    | ⟨0, _⟩ => rfl
    | ⟨1, _⟩ => rfl

end

/-! ## The constants -/

/-- The number of places each mean is over, as both programs write it. -/
def count : EReal := Ideal.ofBits .f32 0x49000000#32
/-- The number added to the variance, as both programs write it. -/
def tiny : EReal := Ideal.ofBits .f32 0x3727C5AC#32

/-! ## The arithmetic -/

theorem coe_sum {ι : Type*} [Fintype ι] (f : ι → ℝ) : ((∑ i, f i : ℝ) : EReal) = ∑ i, (f i : EReal) := by
  classical
  induction (Finset.univ : Finset ι) using Finset.induction_on with
  | empty => simp
  | insert a s ha ih => rw [Finset.sum_insert ha, Finset.sum_insert ha, EReal.coe_add, ih]

/-- The mean squared deviation is the mean square less the squared mean. -/
theorem deviation {ι : Type*} [Fintype ι] (f : ι → ℝ) (n : ℝ) (hn : n ≠ 0) (hc : (Fintype.card ι : ℝ) = n) :
    (∑ i, (f i - (∑ i, f i) / n) * (f i - (∑ i, f i) / n)) / n = (∑ i, f i * f i) / n - (∑ i, f i) / n * ((∑ i, f i) / n) := by
  have h : ∀ i, (f i - (∑ i, f i) / n) * (f i - (∑ i, f i) / n)
      = f i * f i - 2 * ((∑ i, f i) / n) * f i + (∑ i, f i) / n * ((∑ i, f i) / n) := fun i => by ring
  simp only [h, Finset.sum_add_distrib, Finset.sum_sub_distrib, ← Finset.mul_sum, Finset.sum_const, Finset.card_univ, nsmul_eq_mul, hc]
  field_simp
  ring

/-! ## One place of the activation, as each program computes it -/

/-- The kernel's normalised value, from the sum `S` and the sum of squares `Q`. -/
def kernelNorm (x S Q : EReal) : EReal :=
  (x - Ideal.div S count) * Ideal.rsqrt (Ideal.div Q count - Ideal.div S count * Ideal.div S count + tiny)
/-- The kernel's activation of it. -/
def kernelAct (x S Q : EReal) : EReal := kernelNorm x S Q * Ideal.logistic (kernelNorm x S Q)

/-- The reference's normalised value, from the sum `S` and the sum of squared deviations `D`. -/
def hostNorm (x S D : EReal) : EReal := Ideal.div (x - Ideal.div S count) (Ideal.sqrt (Ideal.div D count + tiny))
/-- The reference's activation of it. -/
def hostAct (x S D : EReal) : EReal := Ideal.div (hostNorm x S D) (1 + Ideal.exp (-hostNorm x S D))

theorem count_eq : count = ((524288 : ℝ) : EReal) := by
  unfold count
  simp [Ideal.ofBits, Ideal.ieee, -EReal.coe_mul]; norm_num

theorem tiny_pos : ∃ e : ℝ, 0 < e ∧ tiny = (e : EReal) := by
  refine ⟨_, ?_, show tiny = _ by unfold tiny; simp [Ideal.ofBits, Ideal.ieee, -EReal.coe_mul]; rfl⟩
  positivity

theorem div_reals (a : ℝ) {b : ℝ} (hb : b ≠ 0) : Ideal.div (a : EReal) (b : EReal) = ((a / b : ℝ) : EReal) := by
  rw [Ideal.div_coe hb, ← EReal.coe_mul, mul_one_div]

/-- The two activations agree wherever the summed values are real. -/
theorem acts_agree {ι : Type*} [Fintype ι] (hc : Fintype.card ι = 524288) (f : ι → ℝ) (r : ℝ) :
    kernelAct r (∑ i, (f i : EReal)) (∑ i, (f i : EReal) * (f i : EReal))
      = hostAct r (∑ i, (f i : EReal))
          (∑ i, ((f i : EReal) - Ideal.div (∑ i, (f i : EReal)) count) * ((f i : EReal) - Ideal.div (∑ i, (f i : EReal)) count)) := by
  obtain ⟨e, he, ht⟩ := tiny_pos
  have hn : (524288 : ℝ) ≠ 0 := by norm_num
  have hv := deviation f 524288 hn (by rw [hc]; norm_num)
  have h0 : 0 ≤ (∑ i, (f i - (∑ i, f i) / 524288) * (f i - (∑ i, f i) / 524288)) / 524288 :=
    div_nonneg (Finset.sum_nonneg fun i _ => mul_self_nonneg _) (by norm_num)
  unfold kernelAct hostAct kernelNorm hostNorm
  rw [ht, count_eq]
  simp only [← EReal.coe_mul, ← coe_sum, div_reals _ hn, ← EReal.coe_sub, ← EReal.coe_add]
  rw [hv] at h0 ⊢
  generalize (∑ i, f i * f i) / 524288 - (∑ i, f i) / 524288 * ((∑ i, f i) / 524288) = v at h0 ⊢
  generalize (∑ i, f i) / 524288 = μ
  have hp : 0 < v + e := by linarith
  have hs : Real.sqrt (v + e) ≠ 0 := (Real.sqrt_pos.mpr hp).ne'
  rw [Ideal.rsqrt_coe, Ideal.sqrt_coe, if_neg hp.not_gt, if_neg hp.ne', if_neg hp.not_gt, div_reals _ hs, ← EReal.coe_mul, ← div_eq_mul_inv]
  generalize (r - μ) / Real.sqrt (v + e) = h
  rw [Ideal.logistic_coe, ← EReal.coe_neg, Ideal.exp_coe, ← EReal.coe_one, ← EReal.coe_add,
    div_reals _ (by positivity), ← EReal.coe_mul, div_eq_mul_inv]

end Cert.Moments

end
-- ==== Proof.Values.lean ====
/-
  THE VALUES. Each program's result, read at one place: a sum over the 64 channels of an activation (Sums.lean) times an element of the
  projection. The kernel's statistics are sums over the 32 rows gathered on a device, one from each device, so they are the sums over the
  whole array; with every element finite the two activations are the same number.
-/
module

public import proofs.«01_k».proof.Defs
public import proofs.«01_k».proof.Proof.Sums
public import proofs.«01_k».proof.Proof.Launch
public import proofs.«01_k».proof.Proof.Gen.ReferenceIdeal.Run
public import proofs.«01_k».proof.Proof.Gen.Pre_finite_x_KernelIdeal
public import Idealize.ShloMosaic.Lib.Tactic.CleanTypes
public import Idealize.ShloMosaic.Lib.ReduceAll

@[expose] public section

set_option maxRecDepth 16384

noncomputable section

namespace Cert.Moments

open Idealize.ShloMosaic Idealize.ShloMosaic.TcCoe
open Cert.KernelIdeal Cert.KernelIdeal.Gen

/-! ## The reference's result -/

abbrev Whole : Shape := ⟨4, ![2, 4096, 128, 64]⟩

theorem word_zero : FloatOps.sitofp (F := Ideal) FTy.f32 0#32 = (0 : EReal) := by
  show (((0#32 : BitVec 32).toInt : ℝ) : EReal) = 0
  simp

theorem count_pos : (0 : EReal) < count := by rw [count_eq]; exact_mod_cast (by norm_num : (0 : ℝ) < 524288)

/-- A channel's sum over the whole array, and its sum of squared deviations. -/
def total (x : Whole.Idx → EReal) (b : Fin 2) (k : Fin 64) : EReal := ∑ p : Fin 4096 × Fin 128, x (ix4 b p.1 p.2 k)
def spread (x : Whole.Idx → EReal) (b : Fin 2) (k : Fin 64) : EReal :=
  ∑ p : Fin 4096 × Fin 128, (x (ix4 b p.1 p.2 k) - Ideal.div (total x b k) count) * (x (ix4 b p.1 p.2 k) - Ideal.div (total x b k) count)

theorem ref_apply (m : (ℓ : Loc Cert.ReferenceIdeal.nD Cert.ReferenceIdeal.τ Cert.ReferenceIdeal.sig) → Buf (Elt Ideal) ℓ)
    (c : Dev Cert.ReferenceIdeal.nD) (x : Whole.Idx → EReal) (w : S64x128.Idx → EReal)
    (hx : m ((c.tc : Thread Cert.ReferenceIdeal.nD Cert.ReferenceIdeal.τ).loc Cert.ReferenceIdeal.main_arg0) = x)
    (hw : m ((c.tc : Thread Cert.ReferenceIdeal.nD Cert.ReferenceIdeal.τ).loc Cert.ReferenceIdeal.main_arg1) = w)
    (b : Fin 2) (h : Fin 4096) (y o : Fin 128) :
    (Cert.ReferenceIdeal.Value.res_main_v20 (F := Ideal) m c (ix4 b h y o) : EReal)
      = ∑ k : Fin 64, hostAct (x (ix4 b h y k)) (total x b k) (spread x b k) * w (ix2 k o) := by
  unfold Cert.ReferenceIdeal.Value.res_main_v20
  rw [hx, hw]
  clean_types
  pointwise [sum_axes12]
  simp only [word_zero, sub_zero, ← count.eq_def, if_pos count_pos]
  rfl

/-! ## The kernel's result -/

theorem stats_apply (x : S2x128x64x128.Idx → EReal) (r : Fin 4) (k : Fin 64) :
    (k0_pay2 (F := Ideal) x (ix3 0 r k) : EReal) = if h : r.val < 2 then ∑ p : Fin 128 × Fin 128, x (ix4 ⟨r.val, h⟩ p.1 k p.2)
      else ∑ p : Fin 128 × Fin 128, x (ix4 ⟨r.val - 2, by omega⟩ p.1 k p.2) * x (ix4 ⟨r.val - 2, by omega⟩ p.1 k p.2) := by
  pointwise [k0_pay2, k0_pay1, sum_axes13]

theorem inRow_eq (s : Fin 32) (r : Fin 4) (k : Fin 64) : inRow (ix3 s r k) = ix3 0 r k := by
  funext a
  match a with
  | ⟨0, _⟩ => rfl
  | ⟨1, _⟩ => rfl
  | ⟨2, _⟩ => rfl

variable (X : Dev nD → S2x128x64x128.Idx → EReal)

theorem gathered_sum (c : Dev nD) (s : Fin 32) (b : Fin 2) (k : Fin 64) :
    (gathered (F := Ideal) X c (ix3 s ⟨b.val, by omega⟩ k) : EReal) = ∑ p : Fin 128 × Fin 128, X (frm c s) (ix4 b p.1 k p.2) := by
  show (k0_pay2 (F := Ideal) (X (frm c s)) (inRow (ix3 s ⟨b.val, by omega⟩ k)) : EReal) = _
  rw [inRow_eq, stats_apply, dif_pos b.isLt]

theorem gathered_square (c : Dev nD) (s : Fin 32) (b : Fin 2) (k : Fin 64) :
    (gathered (F := Ideal) X c (ix3 s ⟨2 + b.val, by omega⟩ k) : EReal)
      = ∑ p : Fin 128 × Fin 128, X (frm c s) (ix4 b p.1 k p.2) * X (frm c s) (ix4 b p.1 k p.2) := by
  show (k0_pay2 (F := Ideal) (X (frm c s)) (inRow (ix3 s ⟨2 + b.val, by omega⟩ k)) : EReal) = _
  rw [inRow_eq, stats_apply, dif_neg (by show ¬ 2 + b.val < 2; omega)]
  simp only [Nat.add_sub_cancel_left]

theorem result_apply (c : Dev nD) (w : S64x128.Idx → EReal) (b : Fin 2) (h y o : Fin 128) :
    (result (F := Ideal) X c w (ix4 b h y o) : EReal)
      = ∑ k : Fin 64, kernelAct (X c (ix4 b h k y)) (∑ s : Fin 32, ∑ p : Fin 128 × Fin 128, X (frm c s) (ix4 b p.1 k p.2))
          (∑ s : Fin 32, ∑ p : Fin 128 × Fin 128, X (frm c s) (ix4 b p.1 k p.2) * X (frm c s) (ix4 b p.1 k p.2)) * w (ix2 k o) := by
  unfold result
  simp only [← gathered_sum, ← gathered_square]
  generalize gathered (F := Ideal) X c = g
  change (⟨3, ![32, 4, 64]⟩ : Shape).Idx → EReal at g
  pointwise [k0_pay7, k0_pay1, k0_pay5, k0_pay6, k0_pay4, k0_pay3]
  rfl

/-! ## The blocks together are the whole -/

/-- Row `h` of device `d`'s block, in the whole array. -/
def glob (d : Fin 32) (h : Fin 128) : Fin 4096 := ⟨d.val * 128 + h.val, by omega⟩

def globEquiv : Fin 32 × Fin 128 ≃ Fin 4096 where
  toFun p := glob p.1 p.2
  invFun H := (⟨H.val / 128, by omega⟩, ⟨H.val % 128, by omega⟩)
  left_inv p := Prod.ext (Fin.ext (show (p.1.val * 128 + p.2.val) / 128 = p.1.val by omega))
    (Fin.ext (show (p.1.val * 128 + p.2.val) % 128 = p.2.val by omega))
  right_inv H := Fin.ext (show H.val / 128 * 128 + H.val % 128 = H.val by omega)

theorem sum_blocks (φ : Fin 4096 → Fin 128 → EReal) :
    ∑ d : Fin 32, ∑ p : Fin 128 × Fin 128, φ (glob d p.1) p.2 = ∑ q : Fin 4096 × Fin 128, φ q.1 q.2 := by
  simp only [Fintype.sum_prod_type]
  rw [← globEquiv.sum_comp fun H => ∑ y, φ H y, Fintype.sum_prod_type]
  rfl

/-- The devices a device's rows come from are all of them, each once. -/
theorem frm_bijective (c : Dev nD) : Function.Bijective (frm c) := by
  refine Finite.injective_iff_bijective.mp fun s t e => Fin.ext ?_
  have h : (c.val + (32 - s.val)) % 32 = (c.val + (32 - t.val)) % 32 := congrArg Fin.val e
  have := s.isLt
  have := t.isLt
  omega

theorem sum_frm (c : Dev nD) (f : Dev nD → EReal) : ∑ s : Fin 32, f (frm c s) = ∑ d : Dev nD, f d :=
  (frm_bijective c).sum_comp f

/-! ## The two results agree -/

abbrev Part : Shape := ⟨4, ![2, 128, 128, 64]⟩

theorem block_at (c : Fin 32) (G : Whole.Idx → EReal) (b : Fin 2) (h y : Fin 128) (k : Fin 64) :
    Layout.block Part Whole 1 32 c G (by decide) (ix4 b h y k) = G (ix4 b (glob c h) y k) := by
  show G _ = G _
  congr 1
  funext a
  match a with
  | ⟨0, _⟩ => rfl
  | ⟨1, _⟩ => rfl
  | ⟨2, _⟩ => rfl
  | ⟨3, _⟩ => rfl

theorem results_agree (G : Whole.Idx → EReal) (w : S64x128.Idx → EReal) (hG : ∀ i, ∃ r : ℝ, G i = (r : EReal))
    (hX : ∀ (d : Dev nD) (b : Fin 2) (h y : Fin 128) (k : Fin 64), X d (ix4 b h k y) = G (ix4 b (glob d h) y k))
    (c : Dev nD) (b : Fin 2) (h y o : Fin 128) :
    (result (F := Ideal) X c w (ix4 b h y o) : EReal)
      = ∑ k : Fin 64, hostAct (G (ix4 b (glob c h) y k)) (total G b k) (spread G b k) * w (ix2 k o) := by
  choose g hg using hG
  rw [result_apply]
  refine Finset.sum_congr rfl fun k _ => congrArg (· * w (ix2 k o)) ?_
  simp only [hX]
  rw [sum_frm c fun d => ∑ p : Fin 128 × Fin 128, G (ix4 b (glob d p.1) p.2 k),
    sum_frm c fun d => ∑ p : Fin 128 × Fin 128, G (ix4 b (glob d p.1) p.2 k) * G (ix4 b (glob d p.1) p.2 k),
    sum_blocks fun H y => G (ix4 b H y k), sum_blocks fun H y => G (ix4 b H y k) * G (ix4 b H y k)]
  unfold spread total
  simp only [hg]
  exact acts_agree (by rw [Fintype.card_prod, Fintype.card_fin, Fintype.card_fin]) (fun p : Fin 4096 × Fin 128 => g (ix4 b p.1 p.2 k)) _

end Cert.Moments

end
-- ==== Proof.Algebraic.lean ====
/-
  THE VALUE CLAIM: from arguments that agree, `x` finite, each device's result is its block of the reference's result.
-/
module

public import proofs.«01_k».proof.Defs
public import proofs.«01_k».proof.Proof.Values
public import proofs.«01_k».proof.Proof.Run

@[expose] public section

set_option maxRecDepth 16384

noncomputable section

namespace Cert.Moments

open Idealize.ShloMosaic Idealize.ShloMosaic.TcCoe Idealize.SL.Sem
open Cert.KernelIdeal Cert.KernelIdeal.Gen

/-! ## What the precondition says -/

/-- A number whose magnitude is below the infinite one is real. -/
theorem real_of_lt (x : EReal) (h : Ideal.cmp .olt (max x (-x)) (Ideal.ofBits .f32 0x7F800000#32) = 1#1) : ∃ r : ℝ, x = (r : EReal) := by
  have top : Ideal.ofBits .f32 0x7F800000#32 = (⊤ : EReal) := by simp [Ideal.ofBits, Ideal.ieee]
  rw [top] at h
  have lt : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  induction x using EReal.rec with
  | bot => exact absurd lt (by simp)
  | top => exact absurd lt (by simp)
  | coe r => exact ⟨r, rfl⟩

theorem real_of_pre (x : Part.Idx → EReal) (w : S64x128.Idx → EReal) (h : Cert.Pre_finite_x_KernelIdeal.fn (F := Ideal) x w = fun _ => 1#1)
    (i : Part.Idx) : ∃ r : ℝ, x i = (r : EReal) := by
  haveI : Subsingleton Cert.Pre_finite_x_KernelIdeal.S_.Idx := ⟨fun a b => funext fun n => n.elim0⟩
  exact real_of_lt (x i) (Host.reduce_andi_all _ _ _ _ (fun n => n.elim0) (congrFun h fun n => n.elim0) i)

/-! ## The kernel's operand -/

variable (m : (ℓ : Loc nD τ sig) → Buf (Elt Ideal) ℓ)

theorem Xs_apply (c : Dev nD) (b : Fin 2) (h y : Fin 128) (k : Fin 64) :
    (Xs (F := Ideal) m c (ix4 b h k y) : EReal) = m ((c.tc : Thread nD τ).loc main_arg0) (ix4 b h y k) := by
  have e : Xs (F := Ideal) m c = transpose S2x128x64x128 [0, 1, 3, 2] (m ((c.tc : Thread nD τ).loc main_arg0) : S2x128x128x64.Idx → EReal)
      transposes_S2x128x128x64_S2x128x64x128_0_1_3_2 := by
    unfold Xs
    simp only [V, hostOps0]
    rfl
  rw [e]
  pointwise []

/-- An index is its coordinates. -/
theorem index_coords {n₀ n₁ n₂ n₃ : ℕ} (i : (⟨4, ![n₀, n₁, n₂, n₃]⟩ : Shape).Idx) :
    ∃ (a : Fin n₀) (b : Fin n₁) (c : Fin n₂) (d : Fin n₃), i = ix4 a b c d :=
  ⟨i 0, i 1, i 2, i 3, by
    funext n
    match n with
    | ⟨0, _⟩ => rfl
    | ⟨1, _⟩ => rfl
    | ⟨2, _⟩ => rfl
    | ⟨3, _⟩ => rfl⟩

variable (m' : (ℓ : Loc Cert.ReferenceIdeal.nD Cert.ReferenceIdeal.τ Cert.ReferenceIdeal.sig) → Buf (Elt Ideal) ℓ)

theorem res_eq (hpre : Cert.Pre_KernelIdeal_finite_x_KernelIdeal (hPre_finite_x_KernelIdeal := Cert.Pre_finite_x_KernelIdeal.Gen.facts) m)
    (agree : ∀ c : Dev nD,
      m ((c.tc : Thread nD τ).loc main_arg0) = Layout.block ⟨4, ![2, 128, 128, 64]⟩ ⟨4, ![2, 4096, 128, 64]⟩ 1 32 c
        (m' (((0 : Dev Cert.ReferenceIdeal.nD).tc : Thread Cert.ReferenceIdeal.nD Cert.ReferenceIdeal.τ).loc Cert.ReferenceIdeal.main_arg0))
      ∧ m ((c.tc : Thread nD τ).loc main_arg1)
        = m' (((0 : Dev Cert.ReferenceIdeal.nD).tc : Thread Cert.ReferenceIdeal.nD Cert.ReferenceIdeal.τ).loc Cert.ReferenceIdeal.main_arg1))
    (c : Dev nD) : res (F := Ideal) m c
      = Layout.block ⟨4, ![2, 128, 128, 128]⟩ ⟨4, ![2, 4096, 128, 128]⟩ 1 32 c (Cert.ReferenceIdeal.Value.res_main_v20 (F := Ideal) m' 0) := by
  generalize hG : m' (((0 : Dev Cert.ReferenceIdeal.nD).tc : Thread Cert.ReferenceIdeal.nD Cert.ReferenceIdeal.τ).loc Cert.ReferenceIdeal.main_arg0) = G at agree
  generalize hw : m' (((0 : Dev Cert.ReferenceIdeal.nD).tc : Thread Cert.ReferenceIdeal.nD Cert.ReferenceIdeal.τ).loc Cert.ReferenceIdeal.main_arg1) = w at agree
  change Whole.Idx → EReal at G
  change S64x128.Idx → EReal at w
  have arg (d : Dev nD) (b : Fin 2) (h y : Fin 128) (k : Fin 64) :
      (m ((d.tc : Thread nD τ).loc main_arg0) (ix4 b h y k) : EReal) = G (ix4 b (glob d h) y k) :=
    (congrFun (agree d).1 (ix4 b h y k)).trans (block_at d G b h y k)
  have real (i : Whole.Idx) : ∃ r : ℝ, G i = (r : EReal) := by
    obtain ⟨b, H, y, k, rfl⟩ := index_coords i
    obtain ⟨⟨d, h⟩, rfl⟩ := globEquiv.surjective H
    show ∃ r : ℝ, G (ix4 b (glob d h) y k) = (r : EReal)
    rw [← arg]
    exact real_of_pre _ _ (hpre _) _
  have proj : Wp (F := Ideal) m c = w := (V_main_arg1 m c).trans (agree c).2
  funext i
  obtain ⟨b, h, y, o, rfl⟩ := index_coords (n₀ := 2) (n₁ := 128) (n₂ := 128) (n₃ := 128) i
  have block : Layout.block ⟨4, ![2, 128, 128, 128]⟩ ⟨4, ![2, 4096, 128, 128]⟩ 1 32 c (Cert.ReferenceIdeal.Value.res_main_v20 (F := Ideal) m' 0)
      (by decide) (ix4 b h y o) = Cert.ReferenceIdeal.Value.res_main_v20 (F := Ideal) m' 0 (ix4 b (glob c h) y o) := by
    show Cert.ReferenceIdeal.Value.res_main_v20 (F := Ideal) m' 0 _ = _
    congr 1
    funext a
    match a with
    | ⟨0, _⟩ => rfl
    | ⟨1, _⟩ => rfl
    | ⟨2, _⟩ => rfl
    | ⟨3, _⟩ => rfl
  refine Eq.trans ?_ block.symm
  unfold res
  rw [proj]
  exact (results_agree (Xs (F := Ideal) m) G w real (fun d b h y k => (Xs_apply m d b h y k).trans (arg d b h y k)) c b h y o).trans
    (ref_apply m' 0 G w hG hw b (glob c h) y o).symm

theorem algebraic : Cert.algebraic_KernelIdeal_ReferenceIdeal_pre_finite_x_KernelIdeal
    (hPre_finite_x_KernelIdeal := Cert.Pre_finite_x_KernelIdeal.Gen.facts) := by
  intro m ρ m' ρ' hpre agree
  refine ⟨Cert.ReferenceIdeal.Value.res_main_v20 (F := Ideal) m' 0, ?_, ?_⟩
  · exact (θ_run Cert.KernelIdeal.defs _ _).mono
      (fun _ h c => ⟨(h.1 c).2.2.trans (res_eq m m' hpre agree c), (h.1 c).1, (h.1 c).2.1⟩) (run_main (F := Ideal) m ρ)
  · exact (θ_run Cert.ReferenceIdeal.defs _ _).mono (fun _ h => h 0) (Cert.ReferenceIdeal.Value.run (F := Ideal) m' ρ')

end Cert.Moments

end
-- ==== Proof.lean ====
/-
  THE PROOF. Three frames of the kernel (at its two float types, and with `x` finite), two of the reference, and the value claim: with `x`
  finite, each device's result is its block of the reference's. The kernel's run is in Proof/Run.lean, written once for every float type;
  the frames are in Proof/Frames.lean, the values in Proof/Values.lean and Proof/Algebraic.lean. No operation was replaced, so the two
  kernel programs have one text and `preserves` is `trivial`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_x_KernelIdeal
public import proofs.«01_k».proof.Proof.Gen.Pre_finite_x_ReferenceIdeal
public import proofs.«01_k».proof.Proof.Frames
public import proofs.«01_k».proof.Proof.Algebraic

@[expose] public section

noncomputable section

namespace Cert.Proof

open Cert.Moments

theorem claim : Cert.Claim :=
  ⟨Cert.Kernel.Gen.facts, Cert.KernelIdeal.Gen.facts, Cert.ReferenceIdeal.Gen.facts, Cert.Pre_finite_x_KernelIdeal.Gen.facts,
    Cert.Pre_finite_x_ReferenceIdeal.Gen.facts,
    frame_kernel, frame_ideal, frame_ideal_pre, frame_ref, frame_ref_pre, trivial, algebraic⟩

end Cert.Proof

end
